-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "inv_n" .f32 0x38FF00FF#32 ((8224⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def holds_KernelIdeal_bounded [hKernelIdeal : Cert.KernelIdeal.Facts] [hPost_bounded : Cert.Post_bounded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ (Cert.Post_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (r.2.mem ((c.tc : Thread Cert.KernelIdeal.nD Cert.KernelIdeal.τ).loc Cert.KernelIdeal.main_v97))) = (fun _ => 1#1))

def holds_ReferenceIdeal_bounded [hReferenceIdeal : Cert.ReferenceIdeal.Facts] [hPost_bounded : Cert.Post_bounded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ (Cert.Post_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (r.2.mem ((c.tc : Thread Cert.ReferenceIdeal.nD Cert.ReferenceIdeal.τ).loc Cert.ReferenceIdeal.main_v138))) = (fun _ => 1#1))

def Claim : Prop :=
  ∃ (hKernel : Cert.Kernel.Facts) (hKernelIdeal : Cert.KernelIdeal.Facts) (hReferenceIdeal : Cert.ReferenceIdeal.Facts) (hPost_bounded : Cert.Post_bounded.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
    ∧ holds_KernelIdeal_bounded (hKernelIdeal := hKernelIdeal) (hPost_bounded := hPost_bounded)
    ∧ holds_ReferenceIdeal_bounded (hReferenceIdeal := hReferenceIdeal) (hPost_bounded := hPost_bounded)
-- ==== Post_bounded.lean ====
abbrev S32x1x512x512 : Shape := ⟨4, ![32, 1, 512, 512]⟩
abbrev S1x1 : Shape := ⟨2, ![1, 1]⟩
abbrev S_ : Shape := ⟨0, ![]⟩

class Facts : Prop where
  bcast_S_S1x1 : S_.BroadcastsInDim S1x1 (![] : Fin 0 → Fin S1x1.rank)

variable [Facts]

def fn {F : FTy → Type} [FloatOps F] (main_arg0 : FVec F S32x1x512x512 .f32) (main_arg1 : FVec F S32x1x512x512 .f32) (main_arg2 : FVec F S1x1 .f32) : IVec S1x1 1 :=
  let main_cst : FVec F S_ .f32 := constant S_ .f32 0x00000000#32
  let main_v0 : FVec F S1x1 .f32 := broadcastInDim S1x1 ![] bcast_S_S1x1 main_cst
  let main_v1 : IVec S1x1 1 := cmpf .oge main_arg2 main_v0
  let main_cst_0 : FVec F S_ .f32 := constant S_ .f32 0x3F800000#32
  let main_v2 : FVec F S1x1 .f32 := broadcastInDim S1x1 ![] bcast_S_S1x1 main_cst_0
  let main_v3 : IVec S1x1 1 := cmpf .ole main_arg2 main_v2
  let main_v4 : IVec S1x1 1 := andi main_v1 main_v3
  main_v4
-- ==== Kernel.lean ====
abbrev S32x1x512x512 : Shape := ⟨4, ![32, 1, 512, 512]⟩
abbrev S32x512x512 : Shape := ⟨3, ![32, 512, 512]⟩
abbrev S512x512 : Shape := ⟨2, ![512, 512]⟩
abbrev S_ : Shape := ⟨0, ![]⟩
abbrev S512x320 : Shape := ⟨2, ![512, 320]⟩
abbrev S32x16x8x320 : Shape := ⟨4, ![32, 16, 8, 320]⟩
abbrev S3x32x512x320 : Shape := ⟨4, ![3, 32, 512, 320]⟩
abbrev S2x512x512 : Shape := ⟨3, ![2, 512, 512]⟩
abbrev S3x2x512x320 : Shape := ⟨4, ![3, 2, 512, 320]⟩
abbrev S1x512x512 : Shape := ⟨3, ![1, 512, 512]⟩
abbrev S1x1x512x320 : Shape := ⟨4, ![1, 1, 512, 320]⟩
abbrev S1x1 : Shape := ⟨2, ![1, 1]⟩
abbrev S1x16x8x320 : Shape := ⟨4, ![1, 16, 8, 320]⟩
abbrev S3x32x16x320 : Shape := ⟨4, ![3, 32, 16, 320]⟩
abbrev S264x96 : Shape := ⟨2, ![264, 96]⟩
abbrev S264x320 : Shape := ⟨2, ![264, 320]⟩
abbrev S1x1x8x320 : Shape := ⟨4, ![1, 1, 8, 320]⟩
abbrev S8x320 : Shape := ⟨2, ![8, 320]⟩
abbrev S3x32x1x320 : Shape := ⟨4, ![3, 32, 1, 320]⟩
abbrev S3x32x320 : Shape := ⟨3, ![3, 32, 320]⟩
abbrev S96x320 : Shape := ⟨2, ![96, 320]⟩
abbrev S264x32 : Shape := ⟨2, ![264, 32]⟩
abbrev S1x264x32 : Shape := ⟨3, ![1, 264, 32]⟩
abbrev S1 : Shape := ⟨1, ![1]⟩
abbrev S1x1x1 : Shape := ⟨3, ![1, 1, 1]⟩

abbrev nBuf : Space → Nat
  | .hbm => 130
  | .vmem => 19
  | .smem => 0
  | _ => 0

abbrev hbmTy0_0 (i : Nat) : BufTy := match i % 128 with
  | 0 => ⟨S32x1x512x512, .f32⟩
  | 1 => ⟨S32x1x512x512, .f32⟩
  | 2 => ⟨S32x512x512, .f32⟩
  | 3 => ⟨S32x512x512, .f32⟩
  | 4 => ⟨S512x512, .i32⟩
  | 5 => ⟨S512x512, .i32⟩
  | 6 => ⟨S_, .f32⟩
  | 7 => ⟨S_, .f32⟩
  | 8 => ⟨S_, .f32⟩
  | 9 => ⟨S_, .f32⟩
  | 10 => ⟨S512x512, .i32⟩
  | 11 => ⟨S_, .i32⟩
  | 12 => ⟨S512x512, .i32⟩
  | 13 => ⟨S512x512, .i32⟩
  | 14 => ⟨S512x512, .f32⟩
  | 15 => ⟨S512x512, .f32⟩
  | 16 => ⟨S512x512, .f32⟩
  | 17 => ⟨S_, .f32⟩
  | 18 => ⟨S512x512, .f32⟩
  | 19 => ⟨S512x512, .f32⟩
  | 20 => ⟨S512x512, .f32⟩
  | 21 => ⟨S_, .f32⟩
  | 22 => ⟨S512x512, .f32⟩
  | 23 => ⟨S512x512, .f32⟩
  | 24 => ⟨S512x512, .f32⟩
  | 25 => ⟨S_, .f32⟩
  | 26 => ⟨S512x512, .f32⟩
  | 27 => ⟨S512x512, .f32⟩
  | 28 => ⟨S512x512, .bf16⟩
  | 29 => ⟨S512x512, .bf16⟩
  | 30 => ⟨S512x512, .f32⟩
  | 31 => ⟨S512x512, .bf16⟩
  | 32 => ⟨S512x320, .i32⟩
  | 33 => ⟨S512x320, .i32⟩
  | 34 => ⟨S_, .f32⟩
  | 35 => ⟨S_, .f32⟩
  | 36 => ⟨S_, .f32⟩
  | 37 => ⟨S_, .f32⟩
  | 38 => ⟨S512x320, .i32⟩
  | 39 => ⟨S_, .i32⟩
  | 40 => ⟨S512x320, .i32⟩
  | 41 => ⟨S512x320, .i32⟩
  | 42 => ⟨S512x320, .f32⟩
  | 43 => ⟨S512x320, .f32⟩
  | 44 => ⟨S512x320, .f32⟩
  | 45 => ⟨S_, .f32⟩
  | 46 => ⟨S512x320, .f32⟩
  | 47 => ⟨S512x320, .f32⟩
  | 48 => ⟨S_, .i32⟩
  | 49 => ⟨S512x320, .i32⟩
  | 50 => ⟨S512x320, .i1⟩
  | 51 => ⟨S512x320, .f32⟩
  | 52 => ⟨S_, .f32⟩
  | 53 => ⟨S512x320, .f32⟩
  | 54 => ⟨S512x320, .f32⟩
  | 55 => ⟨S_, .f32⟩
  | 56 => ⟨S512x320, .f32⟩
  | 57 => ⟨S512x320, .f32⟩
  | 58 => ⟨S512x320, .bf16⟩
  | 59 => ⟨S_, .i32⟩
  | 60 => ⟨S512x320, .i32⟩
  | 61 => ⟨S512x320, .i1⟩
  | 62 => ⟨S512x320, .f32⟩
  | 63 => ⟨S_, .f32⟩
  | 64 => ⟨S512x320, .f32⟩
  | 65 => ⟨S512x320, .f32⟩
  | 66 => ⟨S512x320, .f32⟩
  | 67 => ⟨S_, .f32⟩
  | 68 => ⟨S512x320, .f32⟩
  | 69 => ⟨S512x320, .f32⟩
  | 70 => ⟨S512x320, .bf16⟩
  | 71 => ⟨S32x16x8x320, .i32⟩
  | 72 => ⟨S_, .i32⟩
  | 73 => ⟨S32x16x8x320, .i32⟩
  | 74 => ⟨S32x16x8x320, .i32⟩
  | 75 => ⟨S32x16x8x320, .i32⟩
  | 76 => ⟨S32x16x8x320, .i32⟩
  | 77 => ⟨S32x16x8x320, .i32⟩
  | 78 => ⟨S_, .i32⟩
  | 79 => ⟨S32x16x8x320, .i32⟩
  | 80 => ⟨S32x16x8x320, .i1⟩
  | 81 => ⟨S_, .i32⟩
  | 82 => ⟨S32x16x8x320, .i32⟩
  | 83 => ⟨S32x16x8x320, .i32⟩
  | 84 => ⟨S32x16x8x320, .i32⟩
  | 85 => ⟨S32x16x8x320, .f32⟩
  | 86 => ⟨S_, .i32⟩
  | 87 => ⟨S32x16x8x320, .i32⟩
  | 88 => ⟨S32x16x8x320, .i1⟩
  | 89 => ⟨S_, .i32⟩
  | 90 => ⟨S32x16x8x320, .i32⟩
  | 91 => ⟨S32x16x8x320, .i32⟩
  | 92 => ⟨S32x16x8x320, .i32⟩
  | 93 => ⟨S32x16x8x320, .f32⟩
  | 94 => ⟨S32x16x8x320, .f32⟩
  | 95 => ⟨S32x16x8x320, .f32⟩
  | 96 => ⟨S32x16x8x320, .f32⟩
  | 97 => ⟨S32x16x8x320, .f32⟩
  | 98 => ⟨S32x16x8x320, .f32⟩
  | 99 => ⟨S32x16x8x320, .i32⟩
  | 100 => ⟨S_, .i32⟩
  | 101 => ⟨S32x16x8x320, .i32⟩
  | 102 => ⟨S32x16x8x320, .i1⟩
  | 103 => ⟨S_, .i32⟩
  | 104 => ⟨S32x16x8x320, .i32⟩
  | 105 => ⟨S32x16x8x320, .i1⟩
  | 106 => ⟨S32x16x8x320, .i1⟩
  | 107 => ⟨S_, .i32⟩
  | 108 => ⟨S32x16x8x320, .i32⟩
  | 109 => ⟨S32x16x8x320, .i32⟩
  | 110 => ⟨S_, .i32⟩
  | 111 => ⟨S32x16x8x320, .i32⟩
  | 112 => ⟨S32x16x8x320, .i1⟩
  | 113 => ⟨S_, .i32⟩
  | 114 => ⟨S32x16x8x320, .i32⟩
  | 115 => ⟨S32x16x8x320, .i1⟩
  | 116 => ⟨S32x16x8x320, .i1⟩
  | 117 => ⟨S_, .f32⟩
  | 118 => ⟨S32x16x8x320, .f32⟩
  | 119 => ⟨S_, .i32⟩
  | 120 => ⟨S32x16x8x320, .i32⟩
  | 121 => ⟨S32x16x8x320, .i1⟩
  | 122 => ⟨S_, .f32⟩
  | 123 => ⟨S32x16x8x320, .f32⟩
  | 124 => ⟨S_, .f32⟩
  | 125 => ⟨S32x16x8x320, .f32⟩
  | 126 => ⟨S32x16x8x320, .f32⟩
  | 127 => ⟨S32x16x8x320, .f32⟩
  | _ => ⟨S32x1x512x512, .f32⟩

abbrev hbmTy0_1 (i : Nat) : BufTy := match i % 128 with
  | 0 => ⟨S3x32x512x320, .bf16⟩
  | 1 => ⟨S1x1, .f32⟩
  | _ => ⟨S32x1x512x512, .f32⟩

abbrev hbmTy (i : Nat) : BufTy := match i / 128 with
  | 0 => hbmTy0_0 i
  | 1 => hbmTy0_1 i
  | _ => ⟨S32x1x512x512, .f32⟩

abbrev bufTy : (tb : Table) → Fin (tcTables nBuf tb) → BufTy
  | .hbm, ⟨i, _⟩ => hbmTy i
  | .local _ .vmem, ⟨0, _⟩ => ⟨S2x512x512, .f32⟩
  | .local _ .vmem, ⟨1, _⟩ => ⟨S2x512x512, .f32⟩
  | .local _ .vmem, ⟨2, _⟩ => ⟨S2x512x512, .f32⟩
  | .local _ .vmem, ⟨3, _⟩ => ⟨S2x512x512, .f32⟩
  | .local _ .vmem, ⟨4, _⟩ => ⟨S512x320, .bf16⟩
  | .local _ .vmem, ⟨5, _⟩ => ⟨S512x320, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S3x2x512x320, .bf16⟩
  | .local _ .vmem, ⟨10, _⟩ => ⟨S3x2x512x320, .bf16⟩
  | .local _ .vmem, ⟨11, _⟩ => ⟨S1x16x8x320, .i32⟩
  | .local _ .vmem, ⟨12, _⟩ => ⟨S1x16x8x320, .i32⟩
  | .local _ .vmem, ⟨13, _⟩ => ⟨S1x16x8x320, .f32⟩
  | .local _ .vmem, ⟨14, _⟩ => ⟨S1x16x8x320, .f32⟩
  | .local _ .vmem, ⟨15, _⟩ => ⟨S3x32x16x320, .bf16⟩
  | .local _ .vmem, ⟨16, _⟩ => ⟨S3x32x16x320, .bf16⟩
  | .local _ .vmem, ⟨17, _⟩ => ⟨S1x1, .f32⟩
  | .local _ .vmem, ⟨18, _⟩ => ⟨S264x96, .f32⟩
  | _, _ => ⟨S32x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_c_6 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_7 : Ref sig .tc := ⟨.hbm, 45, rfl⟩
abbrev main_v34 : Ref sig .tc := ⟨.hbm, 46, rfl⟩
abbrev main_v35 : Ref sig .tc := ⟨.hbm, 47, rfl⟩
abbrev main_c_8 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_9 : Ref sig .tc := ⟨.hbm, 52, rfl⟩
abbrev main_v39 : Ref sig .tc := ⟨.hbm, 53, rfl⟩
abbrev main_v40 : Ref sig .tc := ⟨.hbm, 54, rfl⟩
abbrev main_cst_10 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_c_11 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_12 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_13 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_c_14 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_c_15 : Ref sig .tc := ⟨.hbm, 78, rfl⟩
abbrev main_v59 : Ref sig .tc := ⟨.hbm, 79, rfl⟩
abbrev main_v60 : Ref sig .tc := ⟨.hbm, 80, rfl⟩
abbrev main_c_16 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_c_17 : Ref sig .tc := ⟨.hbm, 86, rfl⟩
abbrev main_v65 : Ref sig .tc := ⟨.hbm, 87, rfl⟩
abbrev main_v66 : Ref sig .tc := ⟨.hbm, 88, rfl⟩
abbrev main_c_18 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_c_19 : Ref sig .tc := ⟨.hbm, 100, rfl⟩
abbrev main_v77 : Ref sig .tc := ⟨.hbm, 101, rfl⟩
abbrev main_v78 : Ref sig .tc := ⟨.hbm, 102, rfl⟩
abbrev main_c_20 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_c_21 : Ref sig .tc := ⟨.hbm, 107, rfl⟩
abbrev main_v82 : Ref sig .tc := ⟨.hbm, 108, rfl⟩
abbrev main_v83 : Ref sig .tc := ⟨.hbm, 109, rfl⟩
abbrev main_c_22 : Ref sig .tc := ⟨.hbm, 110, rfl⟩
abbrev main_v84 : Ref sig .tc := ⟨.hbm, 111, rfl⟩
abbrev main_v85 : Ref sig .tc := ⟨.hbm, 112, rfl⟩
abbrev main_c_23 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_cst_24 : Ref sig .tc := ⟨.hbm, 117, rfl⟩
abbrev main_v89 : Ref sig .tc := ⟨.hbm, 118, rfl⟩
abbrev main_c_25 : Ref sig .tc := ⟨.hbm, 119, rfl⟩
abbrev main_v90 : Ref sig .tc := ⟨.hbm, 120, rfl⟩
abbrev main_v91 : Ref sig .tc := ⟨.hbm, 121, rfl⟩
abbrev main_cst_26 : Ref sig .tc := ⟨.hbm, 122, rfl⟩
abbrev main_v92 : Ref sig .tc := ⟨.hbm, 123, rfl⟩
abbrev main_cst_27 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S2x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x320 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x320 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S3x2x512x320 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![32], ![false]⟩

def k1_cond2 (i : grid1.Coords) : BitVec 1 :=
  let arg0 : BitVec 32 := BitVec.ofNat 32 (i 0).val
  let c31_i32 : BitVec 32 := 31#32
  let v250 : BitVec 1 := Scalar.cmpi .eq arg0 c31_i32
  let v251 : BitVec 32 := Scalar.extui v250
  let c0_i32_152 : BitVec 32 := 0#32
  let v252 : BitVec 1 := Scalar.cmpi .ne v251 c0_i32_152
  v252

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x16x8x320 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x16x8x320 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S3x32x16x320 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]
-- ==== KernelIdeal.lean ====
variable {F : FTy → Type} [FloatOps F] [Named F]
def κ : String → Option EReal := fun
  | "inv_n" => some ((8224⁻¹ : ℝ) : EReal)
  | _ => none
-- ==== ReferenceIdeal.lean ====
abbrev S32x1x512x512 : Shape := ⟨4, ![32, 1, 512, 512]⟩
abbrev S32x512x512 : Shape := ⟨3, ![32, 512, 512]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S262144 : Shape := ⟨1, ![262144]⟩
abbrev S32x262144 : Shape := ⟨2, ![32, 262144]⟩
abbrev S262144x32 : Shape := ⟨2, ![262144, 32]⟩
abbrev S258x32 : Shape := ⟨2, ![258, 32]⟩
abbrev S262144x1 : Shape := ⟨2, ![262144, 1]⟩
abbrev S257x32 : Shape := ⟨2, ![257, 32]⟩
abbrev S1x1 : Shape := ⟨2, ![1, 1]⟩

abbrev nBuf : Space → Nat
  | .hbm => 163
  | .vmem => 0
  | .smem => 0
  | _ => 0

abbrev hbmTy0_0 (i : Nat) : BufTy := match i % 128 with
  | 0 => ⟨S32x1x512x512, .f32⟩
  | 1 => ⟨S32x1x512x512, .f32⟩
  | 2 => ⟨S32x512x512, .f32⟩
  | 3 => ⟨S32x512x512, .f32⟩
  | 4 => ⟨S512, .i32⟩
  | 5 => ⟨S_, .i32⟩
  | 6 => ⟨S512, .i32⟩
  | 7 => ⟨S512, .i1⟩
  | 8 => ⟨S_, .i32⟩
  | 9 => ⟨S512, .i32⟩
  | 10 => ⟨S512, .i32⟩
  | 11 => ⟨S512, .i32⟩
  | 12 => ⟨S512, .f32⟩
  | 13 => ⟨S512x1, .f32⟩
  | 14 => ⟨S1x512, .f32⟩
  | 15 => ⟨S512x1, .f32⟩
  | 16 => ⟨S1x512, .f32⟩
  | 17 => ⟨S512x512, .f32⟩
  | 18 => ⟨S512x512, .f32⟩
  | 19 => ⟨S512x512, .f32⟩
  | 20 => ⟨S512x512, .f32⟩
  | 21 => ⟨S512x512, .f32⟩
  | 22 => ⟨S512x512, .i32⟩
  | 23 => ⟨S_, .i32⟩
  | 24 => ⟨S512x512, .i32⟩
  | 25 => ⟨S512x512, .i1⟩
  | 26 => ⟨S_, .i32⟩
  | 27 => ⟨S512x512, .i32⟩
  | 28 => ⟨S512x512, .i32⟩
  | 29 => ⟨S262144, .i32⟩
  | 30 => ⟨S512, .i32⟩
  | 31 => ⟨S_, .f32⟩
  | 32 => ⟨S_, .f32⟩
  | 33 => ⟨S_, .f32⟩
  | 34 => ⟨S_, .f32⟩
  | 35 => ⟨S512x1, .i32⟩
  | 36 => ⟨S1x512, .i32⟩
  | 37 => ⟨S512x512, .i32⟩
  | 38 => ⟨S512x512, .i32⟩
  | 39 => ⟨S512x512, .i32⟩
  | 40 => ⟨S512x512, .f32⟩
  | 41 => ⟨S512x512, .f32⟩
  | 42 => ⟨S512x512, .f32⟩
  | 43 => ⟨S_, .f32⟩
  | 44 => ⟨S512x512, .f32⟩
  | 45 => ⟨S512x512, .f32⟩
  | 46 => ⟨S512x512, .f32⟩
  | 47 => ⟨S512x512, .f32⟩
  | 48 => ⟨S32x512x512, .f32⟩
  | 49 => ⟨S32x512x512, .f32⟩
  | 50 => ⟨S32x512x512, .f32⟩
  | 51 => ⟨S32x512x512, .f32⟩
  | 52 => ⟨S32x512x512, .f32⟩
  | 53 => ⟨S32x512x512, .f32⟩
  | 54 => ⟨S32x512x512, .f32⟩
  | 55 => ⟨S32x512x512, .f32⟩
  | 56 => ⟨S32x512x512, .f32⟩
  | 57 => ⟨S32x512x512, .f32⟩
  | 58 => ⟨S32x512x512, .f32⟩
  | 59 => ⟨S32x512x512, .f32⟩
  | 60 => ⟨S32x512x512, .f32⟩
  | 61 => ⟨S_, .f32⟩
  | 62 => ⟨S32x512x512, .f32⟩
  | 63 => ⟨S32x512x512, .f32⟩
  | 64 => ⟨S_, .f32⟩
  | 65 => ⟨S32x512x512, .f32⟩
  | 66 => ⟨S32x512x512, .f32⟩
  | 67 => ⟨S512, .i32⟩
  | 68 => ⟨S_, .f32⟩
  | 69 => ⟨S_, .f32⟩
  | 70 => ⟨S_, .f32⟩
  | 71 => ⟨S_, .f32⟩
  | 72 => ⟨S512x1, .i32⟩
  | 73 => ⟨S1x512, .i32⟩
  | 74 => ⟨S512x512, .i32⟩
  | 75 => ⟨S512x512, .i32⟩
  | 76 => ⟨S512x512, .i32⟩
  | 77 => ⟨S512x512, .f32⟩
  | 78 => ⟨S512x512, .f32⟩
  | 79 => ⟨S512x512, .f32⟩
  | 80 => ⟨S_, .f32⟩
  | 81 => ⟨S512x512, .f32⟩
  | 82 => ⟨S512x512, .f32⟩
  | 83 => ⟨S512x512, .f32⟩
  | 84 => ⟨S512x512, .f32⟩
  | 85 => ⟨S32x512x512, .f32⟩
  | 86 => ⟨S32x512x512, .f32⟩
  | 87 => ⟨S32x512x512, .f32⟩
  | 88 => ⟨S32x512x512, .f32⟩
  | 89 => ⟨S32x512x512, .f32⟩
  | 90 => ⟨S32x512x512, .f32⟩
  | 91 => ⟨S32x512x512, .f32⟩
  | 92 => ⟨S32x512x512, .f32⟩
  | 93 => ⟨S32x512x512, .f32⟩
  | 94 => ⟨S32x512x512, .f32⟩
  | 95 => ⟨S32x512x512, .f32⟩
  | 96 => ⟨S32x512x512, .f32⟩
  | 97 => ⟨S32x512x512, .f32⟩
  | 98 => ⟨S_, .f32⟩
  | 99 => ⟨S32x512x512, .f32⟩
  | 100 => ⟨S32x512x512, .f32⟩
  | 101 => ⟨S_, .f32⟩
  | 102 => ⟨S32x512x512, .f32⟩
  | 103 => ⟨S32x512x512, .f32⟩
  | 104 => ⟨S32x512x512, .f32⟩
  | 105 => ⟨S32x512x512, .f32⟩
  | 106 => ⟨S32x512x512, .f32⟩
  | 107 => ⟨S32x262144, .f32⟩
  | 108 => ⟨S262144x32, .f32⟩
  | 109 => ⟨S_, .f32⟩
  | 110 => ⟨S258x32, .f32⟩
  | 111 => ⟨S262144x1, .i32⟩
  | 112 => ⟨S258x32, .f32⟩
  | 113 => ⟨S257x32, .f32⟩
  | 114 => ⟨S32x512x512, .f32⟩
  | 115 => ⟨S32x512x512, .f32⟩
  | 116 => ⟨S32x512x512, .f32⟩
  | 117 => ⟨S32x262144, .f32⟩
  | 118 => ⟨S262144x32, .f32⟩
  | 119 => ⟨S_, .f32⟩
  | 120 => ⟨S258x32, .f32⟩
  | 121 => ⟨S262144x1, .i32⟩
  | 122 => ⟨S258x32, .f32⟩
  | 123 => ⟨S257x32, .f32⟩
  | 124 => ⟨S32x512x512, .f32⟩
  | 125 => ⟨S32x512x512, .f32⟩
  | 126 => ⟨S32x512x512, .f32⟩
  | 127 => ⟨S32x262144, .f32⟩
  | _ => ⟨S32x1x512x512, .f32⟩

abbrev hbmTy0_1 (i : Nat) : BufTy := match i % 128 with
  | 0 => ⟨S262144x32, .f32⟩
  | 1 => ⟨S_, .f32⟩
  | 2 => ⟨S258x32, .f32⟩
  | 3 => ⟨S262144x1, .i32⟩
  | 4 => ⟨S258x32, .f32⟩
  | 5 => ⟨S257x32, .f32⟩
  | 6 => ⟨S32x512x512, .f32⟩
  | 7 => ⟨S32x512x512, .f32⟩
  | 8 => ⟨S32x512x512, .f32⟩
  | 9 => ⟨S32x262144, .f32⟩
  | 10 => ⟨S262144x32, .f32⟩
  | 11 => ⟨S_, .f32⟩
  | 12 => ⟨S258x32, .f32⟩
  | 13 => ⟨S262144x1, .i32⟩
  | 14 => ⟨S258x32, .f32⟩
  | 15 => ⟨S257x32, .f32⟩
  | 16 => ⟨S257x32, .f32⟩
  | 17 => ⟨S257x32, .f32⟩
  | 18 => ⟨S257x32, .f32⟩
  | 19 => ⟨S257x32, .f32⟩
  | 20 => ⟨S257x32, .f32⟩
  | 21 => ⟨S257x32, .f32⟩
  | 22 => ⟨S_, .f32⟩
  | 23 => ⟨S257x32, .f32⟩
  | 24 => ⟨S257x32, .f32⟩
  | 25 => ⟨S257x32, .f32⟩
  | 26 => ⟨S_, .f32⟩
  | 27 => ⟨S257x32, .f32⟩
  | 28 => ⟨S257x32, .f32⟩
  | 29 => ⟨S257x32, .f32⟩
  | 30 => ⟨S_, .f32⟩
  | 31 => ⟨S_, .f32⟩
  | 32 => ⟨S_, .f32⟩
  | 33 => ⟨S_, .f32⟩
  | 34 => ⟨S1x1, .f32⟩
  | _ => ⟨S32x1x512x512, .f32⟩

abbrev hbmTy (i : Nat) : BufTy := match i / 128 with
  | 0 => hbmTy0_0 i
  | 1 => hbmTy0_1 i
  | _ => ⟨S32x1x512x512, .f32⟩

abbrev bufTy : (tb : Table) → Fin (tcTables nBuf tb) → BufTy
  | .hbm, ⟨i, _⟩ => hbmTy i
  | _, _ => ⟨S32x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_c_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_c_1 : Ref sig .tc := ⟨.hbm, 23, rfl⟩
abbrev main_v19 : Ref sig .tc := ⟨.hbm, 24, rfl⟩
abbrev main_v20 : Ref sig .tc := ⟨.hbm, 25, rfl⟩
abbrev main_c_2 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_4 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_cst_5 : Ref sig .tc := ⟨.hbm, 61, rfl⟩
abbrev main_v52 : Ref sig .tc := ⟨.hbm, 62, rfl⟩
abbrev main_v53 : Ref sig .tc := ⟨.hbm, 63, rfl⟩
abbrev main_cst_6 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_cst_7 : Ref sig .tc := ⟨.hbm, 68, rfl⟩
abbrev main_v57 : Ref sig .tc := ⟨.hbm, 69, rfl⟩
abbrev main_cst_8 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_cst_9 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_cst_10 : Ref sig .tc := ⟨.hbm, 98, rfl⟩
abbrev main_v84 : Ref sig .tc := ⟨.hbm, 99, rfl⟩
abbrev main_v85 : Ref sig .tc := ⟨.hbm, 100, rfl⟩
abbrev main_cst_11 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_cst_12 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_cst_13 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_cst_14 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_cst_15 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_cst_16 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_cst_17 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_cst_18 : Ref sig .tc := ⟨.hbm, 158, rfl⟩
abbrev main_v136 : Ref sig .tc := ⟨.hbm, 159, rfl⟩
abbrev main_cst_19 : Ref sig .tc := ⟨.hbm, 160, rfl⟩
abbrev main_v137 : Ref sig .tc := ⟨.hbm, 161, rfl⟩
abbrev main_v138 : Ref sig .tc := ⟨.hbm, 162, rfl⟩

abbrev nD : Nat := 1
abbrev τ : Topo := Topo.v7x

variable {F : FTy → Type} [FloatOps F]
-- ==== Proof.KernelIdeal.Dft.lean ====
/- The first pallas_call (transforms and products): its run, what its output holds after each grid point, the proof data and the
   body obligation, for any index type, level type, algebra, contents of the arrays at entry and owed tally. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit

@[expose] public section

set_option maxRecDepth 16384

noncomputable section

namespace Cert.KernelIdeal.Dft

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b)) (D : Dev nD → CellTallies nD τ sig Ix)

/-- What rides through the call untouched on core `c`: the buffers that are no window's and the random-number register. -/
def ΦK (c : Dev nD) : sProp 𝕄 :=
  iprop(Pipeline.scopedRest (Ix := Ix) (Name := ℕ) (U := U) (Lvl := Lvl) (Val := Elt F) spec0 c ∗ ∃ r, prngReg c r)

/-! ## The windows' blocks -/

/-- The block of window `w` at grid point `t`, read from the array the call finds. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- At every grid point the staging buffer of input 0 holds that point's block, for proof data over these arrays whose body leaves
    the buffer as it was. -/
theorem before0_0_of {c : Dev nD} (dat : Dat τ (Elt F) Ix ℕ U Lvl cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- At every grid point the staging buffer of input 1 holds that point's block, for proof data over these arrays whose body leaves
    the buffer as it was. -/
theorem before0_1_of {c : Dev nD} (dat : Dat τ (Elt F) Ix ℕ U Lvl cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- At every grid point the staging buffer of input 2 holds that point's block, for proof data over these arrays whose body leaves
    the buffer as it was. -/
theorem before0_2_of {c : Dev nD} (dat : Dat τ (Elt F) Ix ℕ U Lvl cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- At every grid point the staging buffer of input 3 holds that point's block, for proof data over these arrays whose body leaves
    the buffer as it was. -/
theorem before0_3_of {c : Dev nD} (dat : Dat τ (Elt F) Ix ℕ U Lvl cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- At every grid point the staging buffer of input 4 holds that point's block, for proof data over these arrays whose body leaves
    the buffer as it was. -/
theorem before0_4_of {c : Dev nD} (dat : Dat τ (Elt F) Ix ℕ U Lvl cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- At every grid point the staging buffer of input 5 holds that point's block, for proof data over these arrays whose body leaves
    the buffer as it was. -/
theorem before0_5_of {c : Dev nD} (dat : Dat τ (Elt F) Ix ℕ U Lvl cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- At every grid point the staging buffer of input 6 holds that point's block, for proof data over these arrays whose body leaves
    the buffer as it was. -/
theorem before0_6_of {c : Dev nD} (dat : Dat τ (Elt F) Ix ℕ U Lvl cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging buffers -/

/-- A staging buffer of the output, as the view its contents are read through. -/
abbrev VO0_7 : View sig .tc .vmem S3x2x512x320 .bf16 := (Memref.whole cc0_stg7_0 : Memref sig .tc .vmem S3x2x512x320 .bf16).view
/-- The staging buffer in use for window 0 at point `t`, -/
abbrev ms0_0 (t : Fin cfg0.N) : Memref sig .tc .vmem S2x512x512 .f32 := win0_0.stage (cfg0.slots t 0)
/-- which is a whole buffer. -/
abbrev hs0_0 (t : Fin cfg0.N) : (ms0_0 t).IsWhole := hstage0_0 ((cfg0.slots t 0).cast nbuf0_0)
/-- The staging buffer in use for window 1 at point `t`, -/
abbrev ms0_1 (t : Fin cfg0.N) : Memref sig .tc .vmem S2x512x512 .f32 := win0_1.stage (cfg0.slots t 1)
/-- which is a whole buffer. -/
abbrev hs0_1 (t : Fin cfg0.N) : (ms0_1 t).IsWhole := hstage0_1 ((cfg0.slots t 1).cast nbuf0_1)
/-- The staging buffer in use for window 2 at point `t`, -/
abbrev ms0_2 (t : Fin cfg0.N) : Memref sig .tc .vmem S512x320 .bf16 := win0_2.stage (cfg0.slots t 2)
/-- which is a whole buffer. -/
abbrev hs0_2 (t : Fin cfg0.N) : (ms0_2 t).IsWhole := hstage0_2 ((cfg0.slots t 2).cast nbuf0_2)
/-- The staging buffer in use for window 3 at point `t`, -/
abbrev ms0_3 (t : Fin cfg0.N) : Memref sig .tc .vmem S512x320 .bf16 := win0_3.stage (cfg0.slots t 3)
/-- which is a whole buffer. -/
abbrev hs0_3 (t : Fin cfg0.N) : (ms0_3 t).IsWhole := hstage0_3 ((cfg0.slots t 3).cast nbuf0_3)
/-- The staging buffer in use for window 4 at point `t`, -/
abbrev ms0_4 (t : Fin cfg0.N) : Memref sig .tc .vmem S512x512 .bf16 := win0_4.stage (cfg0.slots t 4)
/-- which is a whole buffer. -/
abbrev hs0_4 (t : Fin cfg0.N) : (ms0_4 t).IsWhole := hstage0_4 ((cfg0.slots t 4).cast nbuf0_4)
/-- The staging buffer in use for window 5 at point `t`, -/
abbrev ms0_5 (t : Fin cfg0.N) : Memref sig .tc .vmem S512x512 .bf16 := win0_5.stage (cfg0.slots t 5)
/-- which is a whole buffer. -/
abbrev hs0_5 (t : Fin cfg0.N) : (ms0_5 t).IsWhole := hstage0_5 ((cfg0.slots t 5).cast nbuf0_5)
/-- The staging buffer in use for window 6 at point `t`, -/
abbrev ms0_6 (t : Fin cfg0.N) : Memref sig .tc .vmem S512x512 .bf16 := win0_6.stage (cfg0.slots t 6)
/-- which is a whole buffer. -/
abbrev hs0_6 (t : Fin cfg0.N) : (ms0_6 t).IsWhole := hstage0_6 ((cfg0.slots t 6).cast nbuf0_6)
/-- The staging buffer in use for window 7 at point `t`, -/
abbrev ms0_7 (t : Fin cfg0.N) : Memref sig .tc .vmem S3x2x512x320 .bf16 := win0_7.stage (cfg0.slots t 7)
/-- which is a whole buffer. -/
abbrev hs0_7 (t : Fin cfg0.N) : (ms0_7 t).IsWhole := hstage0_7 ((cfg0.slots t 7).cast nbuf0_7)

set_option maxHeartbeats 1000000 in
/-- The body run once on any staging buffers: the inputs' contents stay, and the output's buffer ends with the listed pieces written. The
    list is found by running the body. -/
noncomputable def kernelRun0_A (c : Dev nD) (i : grid0.Coords) (arg1 : Memref sig .tc .vmem S2x512x512 .f32) (harg1 : arg1.IsWhole) (arg2 : Memref sig .tc .vmem S2x512x512 .f32) (harg2 : arg2.IsWhole) (arg3 : Memref sig .tc .vmem S512x320 .bf16) (harg3 : arg3.IsWhole) (arg4 : Memref sig .tc .vmem S512x320 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S3x2x512x320 .bf16) (harg8 : arg8.IsWhole)
    (x0 : Vec F S2x512x512 .f32) (x1 : Vec F S2x512x512 .f32) (x2 : Vec F S512x320 .bf16) (x3 : Vec F S512x320 .bf16) (x4 : Vec F S512x512 .bf16) (x5 : Vec F S512x512 .bf16) (x6 : Vec F S512x512 .bf16) :
    { L7 : List (View.Piece (Elt F) S3x2x512x320 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7)) -∗ K ⟨⟩))
          ⊢ wp frame (wpE (defs₀ (F := F)) 𝒱₀ c none) E (cc0_frc_dft_products i arg1 harg1 arg2 harg2 arg3 harg3 arg4 harg4 arg5 harg5 arg6 harg6 arg7 harg7 arg8 harg8) K } := by
  refine ⟨?_, fun E K => ?run⟩
  case run =>
    simp only [cc0_frc_dft_products_eq_skeleton]; unfold cc0_frc_dft_products_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; iexact H7

/-- The six pieces cover the output block. -/
theorem cover0_A_7 (c : Dev nD) (i : grid0.Coords) (arg1 : Memref sig .tc .vmem S2x512x512 .f32) (harg1 : arg1.IsWhole) (arg2 : Memref sig .tc .vmem S2x512x512 .f32) (harg2 : arg2.IsWhole) (arg3 : Memref sig .tc .vmem S512x320 .bf16) (harg3 : arg3.IsWhole) (arg4 : Memref sig .tc .vmem S512x320 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S3x2x512x320 .bf16) (harg8 : arg8.IsWhole)
    (x0 : Vec F S2x512x512 .f32) (x1 : Vec F S2x512x512 .f32) (x2 : Vec F S512x320 .bf16) (x3 : Vec F S512x320 .bf16) (x4 : Vec F S512x512 .bf16) (x5 : Vec F S512x512 .bf16) (x6 : Vec F S512x512 .bf16) (y : S3x2x512x320.Idx) :
    ∃ pc ∈ (kernelRun0_A (Ix := Ix) (U := U) (Lvl := Lvl) 𝒱₀ c i arg1 harg1 arg2 harg2 arg3 harg3 arg4 harg4 arg5 harg5 arg6 harg6 arg7 harg7 arg8 harg8 x0 x1 x2 x3 x4 x5 x6).1, y ∈ pc.1.set :=
  View.cover_of_tiledL (kernelRun0_A (Ix := Ix) (U := U) (Lvl := Lvl) 𝒱₀ c i arg1 harg1 arg2 harg2 arg3 harg3 arg4 harg4 arg5 harg5 arg6 harg6 arg7 harg7 arg8 harg8 x0 x1 x2 x3 x4 x5 x6).1 S1x1x512x320.size (by sl_kernel_rfl) y

/-- The output block after the body, read off its pieces. -/
def out0_A_7 (c : Dev nD) (i : grid0.Coords) (arg1 : Memref sig .tc .vmem S2x512x512 .f32) (harg1 : arg1.IsWhole) (arg2 : Memref sig .tc .vmem S2x512x512 .f32) (harg2 : arg2.IsWhole) (arg3 : Memref sig .tc .vmem S512x320 .bf16) (harg3 : arg3.IsWhole) (arg4 : Memref sig .tc .vmem S512x320 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S3x2x512x320 .bf16) (harg8 : arg8.IsWhole)
    (x0 : Vec F S2x512x512 .f32) (x1 : Vec F S2x512x512 .f32) (x2 : Vec F S512x320 .bf16) (x3 : Vec F S512x320 .bf16) (x4 : Vec F S512x512 .bf16) (x5 : Vec F S512x512 .bf16) (x6 : Vec F S512x512 .bf16) : Vec F S3x2x512x320 .bf16 :=
  VO0_7.read (Elt F) (VO0_7.writes (Elt F) VO0_7.junk (kernelRun0_A (Ix := Ix) (U := U) (Lvl := Lvl) 𝒱₀ c i arg1 harg1 arg2 harg2 arg3 harg3 arg4 harg4 arg5 harg5 arg6 harg6 arg7 harg7 arg8 harg8 x0 x1 x2 x3 x4 x5 x6).1)

/-! ## What the outputs hold after each point -/

/-- The output block after the body at point `t`. -/
def outsAt0 (c : Dev nD) (t : Fin cfg0.N) : Vec F S3x2x512x320 .bf16 :=
  out0_A_7 (Ix := Ix) (U := U) (Lvl := Lvl) 𝒱₀ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk V c 0 t) (iblk V c 1 t) (iblk V c 2 t) (iblk V c 3 t) (iblk V c 4 t) (iblk V c 5 t) (iblk V c 6 t)

/-! ## The call's proof data -/

/-- The proof data of the call on core `c`: the arrays as found; after each point the inputs' blocks and the output block; nothing owed but
    `D c`. -/
def dat (c : Dev nD) : Dat τ (Elt F) Ix ℕ U Lvl cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => (outsAt0 (Ix := Ix) (U := U) (Lvl := Lvl) 𝒱₀ V c t)
  Φ _ := ΦK (F := F) (Ix := Ix) (U := U) (Lvl := Lvl) c
  q _ := fullShare
  owed _ := D c

variable (ι : Ix)

local notation "𝕕" => dat (Ix := Ix) (U := U) (Lvl := Lvl) 𝒱₀ V D

/-- The arrays of the proof data are those the call finds. -/
theorem A_eq (c : Dev nD) (w : Fin cfg0.W) : (𝕕 c).A w = V c (Pipeline.arrRef spec0 w) := by
  dsimp only [dat]

/-- What the body leaves in window 0, an input, -/
theorem after0_0 (c : Dev nD) (t : Fin cfg0.N) : (𝕕 c).after 0 t = iblk V c 0 t := by dsimp only [dat]
/-- in window 1, an input, -/
theorem after0_1 (c : Dev nD) (t : Fin cfg0.N) : (𝕕 c).after 1 t = iblk V c 1 t := by dsimp only [dat]
/-- in window 2, an input, -/
theorem after0_2 (c : Dev nD) (t : Fin cfg0.N) : (𝕕 c).after 2 t = iblk V c 2 t := by dsimp only [dat]
/-- in window 3, an input, -/
theorem after0_3 (c : Dev nD) (t : Fin cfg0.N) : (𝕕 c).after 3 t = iblk V c 3 t := by dsimp only [dat]
/-- in window 4, an input, -/
theorem after0_4 (c : Dev nD) (t : Fin cfg0.N) : (𝕕 c).after 4 t = iblk V c 4 t := by dsimp only [dat]
/-- in window 5, an input, -/
theorem after0_5 (c : Dev nD) (t : Fin cfg0.N) : (𝕕 c).after 5 t = iblk V c 5 t := by dsimp only [dat]
/-- in window 6, an input, -/
theorem after0_6 (c : Dev nD) (t : Fin cfg0.N) : (𝕕 c).after 6 t = iblk V c 6 t := by dsimp only [dat]
/-- and in the output. -/
theorem after0_7 (c : Dev nD) (t : Fin cfg0.N) : (𝕕 c).after 7 t = (outsAt0 (Ix := Ix) (U := U) (Lvl := Lvl) 𝒱₀ V c t) := by dsimp only [dat]

/-- What the body finds in window 0: its block, -/
theorem before0_0 (c : Dev nD) (t : Fin cfg0.N) (d) : (𝕕 c).before 0 t d = iblk V c 0 t :=
  before0_0_of V (𝕕 c) (A_eq 𝒱₀ V D c 0) (after0_0 𝒱₀ V D c) t d
/-- and likewise in window 1, -/
theorem before0_1 (c : Dev nD) (t : Fin cfg0.N) (d) : (𝕕 c).before 1 t d = iblk V c 1 t :=
  before0_1_of V (𝕕 c) (A_eq 𝒱₀ V D c 1) (after0_1 𝒱₀ V D c) t d
/-- and likewise in window 2, -/
theorem before0_2 (c : Dev nD) (t : Fin cfg0.N) (d) : (𝕕 c).before 2 t d = iblk V c 2 t :=
  before0_2_of V (𝕕 c) (A_eq 𝒱₀ V D c 2) (after0_2 𝒱₀ V D c) t d
/-- and likewise in window 3, -/
theorem before0_3 (c : Dev nD) (t : Fin cfg0.N) (d) : (𝕕 c).before 3 t d = iblk V c 3 t :=
  before0_3_of V (𝕕 c) (A_eq 𝒱₀ V D c 3) (after0_3 𝒱₀ V D c) t d
/-- and likewise in window 4, -/
theorem before0_4 (c : Dev nD) (t : Fin cfg0.N) (d) : (𝕕 c).before 4 t d = iblk V c 4 t :=
  before0_4_of V (𝕕 c) (A_eq 𝒱₀ V D c 4) (after0_4 𝒱₀ V D c) t d
/-- and likewise in window 5, -/
theorem before0_5 (c : Dev nD) (t : Fin cfg0.N) (d) : (𝕕 c).before 5 t d = iblk V c 5 t :=
  before0_5_of V (𝕕 c) (A_eq 𝒱₀ V D c 5) (after0_5 𝒱₀ V D c) t d
/-- and likewise in window 6. -/
theorem before0_6 (c : Dev nD) (t : Fin cfg0.N) (d) : (𝕕 c).before 6 t d = iblk V c 6 t :=
  before0_6_of V (𝕕 c) (A_eq 𝒱₀ V D c 6) (after0_6 𝒱₀ V D c) t d

/-! ## The body at any point -/

/-- What the body is given at point `t`, window by window, -/
def bodyPre (c : Dev nD) (t : Fin cfg0.N) : sProp 𝕄 :=
  iprop((𝕕 c).Φ t.castSucc ∗ (𝕕 c).owesAt ι t.castSucc
    ∗ (∃ d, owns (c : Thread nD τ) (ms0_0 t) fullShare ((𝕕 c).before 0 t d))
    ∗ (∃ d, owns (c : Thread nD τ) (ms0_1 t) fullShare ((𝕕 c).before 1 t d))
    ∗ (∃ d, owns (c : Thread nD τ) (ms0_2 t) fullShare ((𝕕 c).before 2 t d))
    ∗ (∃ d, owns (c : Thread nD τ) (ms0_3 t) fullShare ((𝕕 c).before 3 t d))
    ∗ (∃ d, owns (c : Thread nD τ) (ms0_4 t) fullShare ((𝕕 c).before 4 t d))
    ∗ (∃ d, owns (c : Thread nD τ) (ms0_5 t) fullShare ((𝕕 c).before 5 t d))
    ∗ (∃ d, owns (c : Thread nD τ) (ms0_6 t) fullShare ((𝕕 c).before 6 t d))
    ∗ (∃ d, owns (c : Thread nD τ) (ms0_7 t) fullShare ((𝕕 c).before 7 t d)))

/-- and what it gives back. -/
def bodyPost (c : Dev nD) (t : Fin cfg0.N) : sProp 𝕄 :=
  iprop((𝕕 c).Φ t.succ ∗ (𝕕 c).owesAt ι t.succ
    ∗ owns (c : Thread nD τ) (ms0_0 t) fullShare ((𝕕 c).after 0 t)
    ∗ owns (c : Thread nD τ) (ms0_1 t) fullShare ((𝕕 c).after 1 t)
    ∗ owns (c : Thread nD τ) (ms0_2 t) fullShare ((𝕕 c).after 2 t)
    ∗ owns (c : Thread nD τ) (ms0_3 t) fullShare ((𝕕 c).after 3 t)
    ∗ owns (c : Thread nD τ) (ms0_4 t) fullShare ((𝕕 c).after 4 t)
    ∗ owns (c : Thread nD τ) (ms0_5 t) fullShare ((𝕕 c).after 5 t)
    ∗ owns (c : Thread nD τ) (ms0_6 t) fullShare ((𝕕 c).after 6 t)
    ∗ owns (c : Thread nD τ) (ms0_7 t) fullShare ((𝕕 c).after 7 t))

set_option maxHeartbeats 800000 in
/-- The body at any point: given the inputs' blocks it leaves them and writes the output block. -/
theorem sound_body (c : Dev nD) (t : Fin cfg0.N) :
    bodyPre (U := U) (Lvl := Lvl) 𝒱₀ V D ι c t ⊢ wp frame (wpE (defs₀ (F := F)) 𝒱₀ c none) Set.univ (bodyAt0 t) (fun _ => bodyPost (U := U) (Lvl := Lvl) 𝒱₀ V D ι c t) := by
  unfold bodyPre bodyPost bodyAt0
  simp only [before0_0, before0_1, before0_2, before0_3, before0_4, before0_5, before0_6]
  rw [show (𝕕 c).Φ t.succ = (𝕕 c).Φ t.castSucc from rfl,
    show (𝕕 c).owesAt ι t.succ = (𝕕 c).owesAt ι t.castSucc from rfl,
    after0_0, after0_1, after0_2, after0_3, after0_4, after0_5, after0_6, after0_7]
  unfold outsAt0
  unfold out0_A_7
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A (Ix := Ix) (U := U) (Lvl := Lvl) 𝒱₀ c (grid0.coords t) _ _ _ _ _ _ _ _ _ _ _ _ _ _ _ _ (iblk V c 0 t) (iblk V c 1 t) (iblk V c 2 t) (iblk V c 3 t) (iblk V c 4 t) (iblk V c 5 t) (iblk V c 6 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (cover0_A_7 (Ix := Ix) (U := U) (Lvl := Lvl) 𝒱₀ c _ _ _ _ _ _ _ _ _ _ _ _ _ _ _ _ _ _ _ _ _ _ _ _)

/-- The body that the call runs at point `t`. -/
theorem defs₀_row (t : Fin cfg0.N) :
    defs₀ (F := F) .tc cfg0.body (cfg0.bodyArgs t (cfg0.slots t)) = bodyAt0 t := by
  unfold defs₀; rw [Defs.onTc_tc]

/-- The body meets the proof data at every point. -/
theorem body_obligation (c : Dev nD) : BodyObligation (𝕕 c) (defs₀ (F := F)) 𝒱₀ ι Set.univ := fun t => by
  rw [bigSep_W0, bigSep_W0, defs₀_row]
  exact triple_restated (sound_body (U := U) (Lvl := Lvl) 𝒱₀ V D ι c t) rfl .rfl fun _ => .rfl

end Cert.KernelIdeal.Dft

end
-- ==== Proof.KernelIdeal.Bins.lean ====
/- The second pallas_call (radial bins and loss): its three cases run, what the carried accumulator and the output hold after
   each grid point, the proof data and the body obligation, for any contents of the arrays at entry. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit

@[expose] public section

set_option maxRecDepth 16384

noncomputable section

namespace Cert.KernelIdeal.Bins

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- The block of window `w` at grid point `t`, read from the array the call finds. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- At every grid point the staging buffer of input 0 holds that point's block, for proof data over these arrays whose body leaves
    the buffer as it was. -/
theorem before1_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- At every grid point the staging buffer of input 1 holds that point's block, for proof data over these arrays whose body leaves
    the buffer as it was. -/
theorem before1_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- At every grid point the staging buffer of input 2 holds that point's block, for proof data over these arrays whose body leaves
    the buffer as it was. -/
theorem before1_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's two tests -/

/-- The test for the first grid point -/
abbrev cond1_0 (i : grid1.Coords) : Prop := (Scalar.cmpi .ne (Scalar.extui (Scalar.cmpi .eq (BitVec.ofNat 32 (i 0).val) 0#32)) 0#32) = 1#1
/-- holds at the first point only. -/
theorem hcond1_0 : ∀ t : Fin cfg1.N, cond1_0 (grid1.coords t) ↔ t.val % 32 = 0 :=
  (fun t => by
    have ht : t.val < 32 := Nat.lt_of_lt_of_eq t.isLt N_1
    have e0 : (grid1.coords t 0).val = t.val / 1 % 32 := Pipeline.Grid.coords_val t 0 (by decide) rfl
    simp only [cond1_0, e0]
    word_cmp
   : ∀ t : Fin grid1.N, cond1_0 (grid1.coords t) ↔ t.val % 32 = 0)

/-- The test for the last grid point -/
abbrev cond1_1 (i : grid1.Coords) : Prop := k1_cond2 i = 1#1
/-- holds at the last point only. -/
theorem hcond1_1 : ∀ t : Fin cfg1.N, cond1_1 (grid1.coords t) ↔ t.val % 32 = 31 :=
  (fun t => by
    have ht : t.val < 32 := Nat.lt_of_lt_of_eq t.isLt N_1
    have e0 : (grid1.coords t 0).val = t.val / 1 % 32 := Pipeline.Grid.coords_val t 0 (by decide) rfl
    simp only [cond1_1, k1_cond2, e0]
    word_cmp
   : ∀ t : Fin grid1.N, cond1_1 (grid1.coords t) ↔ t.val % 32 = 31)

/-! ## Where the windows are in use -/

/-- Window 0, an input, is in use at every point, -/
theorem liveAt1_0 : ∀ t : Fin cfg1.N, cfg1.idle 0 (grid1.coords t) = false := fun _ => rfl
/-- and window 1, -/
theorem liveAt1_1 : ∀ t : Fin cfg1.N, cfg1.idle 1 (grid1.coords t) = false := fun _ => rfl
/-- and window 2. -/
theorem liveAt1_2 : ∀ t : Fin cfg1.N, cfg1.idle 2 (grid1.coords t) = false := fun _ => rfl
/-- The output is not in use at the first point, -/
theorem idleAt0_3_A : ∀ t : Fin cfg1.N, cond1_0 (grid1.coords t) → ¬cond1_1 (grid1.coords t) → cfg1.idle 3 (grid1.coords t) = true := by decide +kernel
/-- nor written back there. -/
theorem noFlush0_3_A : ∀ t : Fin cfg1.N, cond1_0 (grid1.coords t) → ¬cond1_1 (grid1.coords t) → (cfg1.win 3).flush t = false := by decide +kernel
/-- The output is not in use at the points between, -/
theorem idleAt0_3_B : ∀ t : Fin cfg1.N, ¬cond1_0 (grid1.coords t) → ¬cond1_1 (grid1.coords t) → cfg1.idle 3 (grid1.coords t) = true := by decide +kernel
/-- nor written back there. -/
theorem noFlush0_3_B : ∀ t : Fin cfg1.N, ¬cond1_0 (grid1.coords t) → ¬cond1_1 (grid1.coords t) → (cfg1.win 3).flush t = false := by decide +kernel
/-- It is in use at the last point. -/
theorem liveAt1_3_C : ∀ t : Fin cfg1.N, ¬cond1_0 (grid1.coords t) → cond1_1 (grid1.coords t) → cfg1.idle 3 (grid1.coords t) = false := by decide +kernel

/-! ## The kernel body on any staging buffers -/

/-- A staging buffer of the output, as the view its contents are read through. -/
abbrev VO1_3 : View sig .tc .vmem S1x1 .f32 := (Memref.whole cc1_stg3_0 : Memref sig .tc .vmem S1x1 .f32).view
/-- The staging buffer in use for window 0 at point `t`, -/
abbrev ms1_0 (t : Fin cfg1.N) : Memref sig .tc .vmem S1x16x8x320 .i32 := win1_0.stage (cfg1.slots t 0)
/-- which is a whole buffer. -/
abbrev hs1_0 (t : Fin cfg1.N) : (ms1_0 t).IsWhole := hstage1_0 ((cfg1.slots t 0).cast nbuf1_0)
/-- The staging buffer in use for window 1 at point `t`, -/
abbrev ms1_1 (t : Fin cfg1.N) : Memref sig .tc .vmem S1x16x8x320 .f32 := win1_1.stage (cfg1.slots t 1)
/-- which is a whole buffer. -/
abbrev hs1_1 (t : Fin cfg1.N) : (ms1_1 t).IsWhole := hstage1_1 ((cfg1.slots t 1).cast nbuf1_1)
/-- The staging buffer in use for window 2 at point `t`, -/
abbrev ms1_2 (t : Fin cfg1.N) : Memref sig .tc .vmem S3x32x16x320 .bf16 := win1_2.stage (cfg1.slots t 2)
/-- which is a whole buffer. -/
abbrev hs1_2 (t : Fin cfg1.N) : (ms1_2 t).IsWhole := hstage1_2 ((cfg1.slots t 2).cast nbuf1_2)
/-- The staging buffer in use for window 3 at point `t`, -/
abbrev ms1_3 (t : Fin cfg1.N) : Memref sig .tc .vmem S1x1 .f32 := win1_3.stage (cfg1.slots t 3)
/-- which is a whole buffer. -/
abbrev hs1_3 (t : Fin cfg1.N) : (ms1_3 t).IsWhole := hstage1_3 ((cfg1.slots t 3).cast nbuf1_3)
/-- The accumulator, a whole buffer of the call's own, -/
abbrev scM1_0 : Memref sig .tc .vmem S264x96 .f32 := Memref.whole cc1_scratch0
/-- as the view its contents are read through. -/
abbrev VS1_0 : View sig .tc .vmem S264x96 .f32 := scM1_0.view

/-- The staging buffers of the first pallas_call, which ride along at some contents. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f))

/-- The accumulator's share taken out of the first of two products. -/
theorem takeOut (P1 P2 P3 P4 P5 P6 P7 P8 P9 P10 P11 S G : sProp 𝕄) :
    iprop((P1 ∗ P2 ∗ P3 ∗ P4 ∗ P5 ∗ P6 ∗ P7 ∗ P8 ∗ P9 ∗ P10 ∗ P11 ∗ S) ∗ G)
      ⊢ iprop(S ∗ ((P1 ∗ P2 ∗ P3 ∗ P4 ∗ P5 ∗ P6 ∗ P7 ∗ P8 ∗ P9 ∗ P10 ∗ P11) ∗ G)) := by
  iintro ⟨⟨A0, A1, A2, A3, A4, A5, A6, A7, A8, A9, A10, HS⟩, Hg⟩
  isplitl [HS]; · iexact HS
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    iexact A10
  iexact Hg

/-- And put back. -/
theorem putBack (P1 P2 P3 P4 P5 P6 P7 P8 P9 P10 P11 S G : sProp 𝕄) :
    iprop(S ∗ ((P1 ∗ P2 ∗ P3 ∗ P4 ∗ P5 ∗ P6 ∗ P7 ∗ P8 ∗ P9 ∗ P10 ∗ P11) ∗ G))
      ⊢ iprop((P1 ∗ P2 ∗ P3 ∗ P4 ∗ P5 ∗ P6 ∗ P7 ∗ P8 ∗ P9 ∗ P10 ∗ P11 ∗ S) ∗ G) := by
  iintro ⟨HS, ⟨A0, A1, A2, A3, A4, A5, A6, A7, A8, A9, A10⟩, Hg⟩
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    iexact HS
  iexact Hg

/-- The region's invariant with the accumulator taken out: owned at some contents, beside the buffers of the other call and the
    generator register. -/
theorem PhiA1_eq (c : Dev nD) :
    (Pipeline.ΦA spec1 c : sProp 𝕄)
      = iprop(iprop((∃ d, owns (c : Thread nD τ) scM1_0 fullShare d)) ∗ (others c ∗ ∃ r, prngReg c r)) := by
  unfold Pipeline.ΦA others; rw [scopedRest1_eq]; simp only [scM1_0, owns_whole]
  exact equiv_iff.mp ⟨takeOut _ _ _ _ _ _ _ _ _ _ _ _ _, putBack _ _ _ _ _ _ _ _ _ _ _ _ _⟩

set_option maxHeartbeats 1000000 in
/-- The body at the first point, run on any staging buffers and any accumulator: the inputs stay, and the buffers written end with the listed
    pieces. The lists are found by running the body. -/
noncomputable def kernelRun1_A (c : Dev nD) (i : grid1.Coords) (arg1 : Memref sig .tc .vmem S1x16x8x320 .i32) (harg1 : arg1.IsWhole) (arg2 : Memref sig .tc .vmem S1x16x8x320 .f32) (harg2 : arg2.IsWhole) (arg3 : Memref sig .tc .vmem S3x32x16x320 .bf16) (harg3 : arg3.IsWhole) (arg4 : Memref sig .tc .vmem S1x1 .f32) (harg4 : arg4.IsWhole) (arg5 : Memref sig .tc .vmem S264x96 .f32) (harg5 : arg5.IsWhole) (hc0 : cond1_0 i) (hc1 : ¬cond1_1 i)
    (x0 : Vec F S1x16x8x320 .i32) (x1 : Vec F S1x16x8x320 .f32) (x2 : Vec F S3x32x16x320 .bf16) :
    Σ' (L3 : List (View.Piece (Elt F) S1x1 .f32)), { LS0 : List (View.Piece (Elt F) S264x96 .f32) //
      ∀ (xi3 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc1_frc_radial_bins_loss i arg1 harg1 arg2 harg2 arg3 harg3 arg4 harg4 arg5 harg5) K } := by
  refine ⟨[], ?_, fun xi3 E K => ?run⟩
  case run =>
    simp only [cc1_frc_radial_bins_loss_eq_skeleton]; unfold cc1_frc_radial_bins_loss_skel
    simp only [k1_part1_eq_skeleton, k1_part2_eq_skeleton, k1_part3_eq_skeleton, k1_part4_eq_skeleton, k1_part5_eq_skeleton, k1_part6_eq_skeleton, k1_part7_eq_skeleton]
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

set_option maxHeartbeats 1000000 in
/-- The body at a point between, run on any staging buffers and any accumulator: the inputs stay, and the buffers written end with the listed
    pieces. The lists are found by running the body. -/
noncomputable def kernelRun1_B (c : Dev nD) (i : grid1.Coords) (arg1 : Memref sig .tc .vmem S1x16x8x320 .i32) (harg1 : arg1.IsWhole) (arg2 : Memref sig .tc .vmem S1x16x8x320 .f32) (harg2 : arg2.IsWhole) (arg3 : Memref sig .tc .vmem S3x32x16x320 .bf16) (harg3 : arg3.IsWhole) (arg4 : Memref sig .tc .vmem S1x1 .f32) (harg4 : arg4.IsWhole) (arg5 : Memref sig .tc .vmem S264x96 .f32) (harg5 : arg5.IsWhole) (hc0 : ¬cond1_0 i) (hc1 : ¬cond1_1 i)
    (x0 : Vec F S1x16x8x320 .i32) (x1 : Vec F S1x16x8x320 .f32) (x2 : Vec F S3x32x16x320 .bf16) (xs0 : Vec F S264x96 .f32) :
    Σ' (L3 : List (View.Piece (Elt F) S1x1 .f32)), { LS0 : List (View.Piece (Elt F) S264x96 .f32) //
      ∀ (xi3 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xs0
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc1_frc_radial_bins_loss i arg1 harg1 arg2 harg2 arg3 harg3 arg4 harg4 arg5 harg5) K } := by
  refine ⟨[], ?_, fun xi3 E K => ?run⟩
  case run =>
    simp only [cc1_frc_radial_bins_loss_eq_skeleton]; unfold cc1_frc_radial_bins_loss_skel
    simp only [k1_part1_eq_skeleton, k1_part2_eq_skeleton, k1_part3_eq_skeleton, k1_part4_eq_skeleton, k1_part5_eq_skeleton, k1_part6_eq_skeleton, k1_part7_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

set_option maxHeartbeats 1000000 in
/-- The body at the last point, run on any staging buffers and any accumulator: the inputs stay, and the buffers written end with the listed
    pieces. The lists are found by running the body. -/
noncomputable def kernelRun1_C (c : Dev nD) (i : grid1.Coords) (arg1 : Memref sig .tc .vmem S1x16x8x320 .i32) (harg1 : arg1.IsWhole) (arg2 : Memref sig .tc .vmem S1x16x8x320 .f32) (harg2 : arg2.IsWhole) (arg3 : Memref sig .tc .vmem S3x32x16x320 .bf16) (harg3 : arg3.IsWhole) (arg4 : Memref sig .tc .vmem S1x1 .f32) (harg4 : arg4.IsWhole) (arg5 : Memref sig .tc .vmem S264x96 .f32) (harg5 : arg5.IsWhole) (hc0 : ¬cond1_0 i) (hc1 : cond1_1 i)
    (x0 : Vec F S1x16x8x320 .i32) (x1 : Vec F S1x16x8x320 .f32) (x2 : Vec F S3x32x16x320 .bf16) (xs0 : Vec F S264x96 .f32) :
    Σ' (L3 : List (View.Piece (Elt F) S1x1 .f32)), { LS0 : List (View.Piece (Elt F) S264x96 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc1_frc_radial_bins_loss i arg1 harg1 arg2 harg2 arg3 harg3 arg4 harg4 arg5 harg5) K } := by
  refine ⟨?_, ?_, fun E K => ?run⟩
  case run =>
    simp only [cc1_frc_radial_bins_loss_eq_skeleton]; unfold cc1_frc_radial_bins_loss_skel
    simp only [k1_part1_eq_skeleton, k1_part2_eq_skeleton, k1_part3_eq_skeleton, k1_part4_eq_skeleton, k1_part5_eq_skeleton, k1_part6_eq_skeleton, k1_part7_eq_skeleton]
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg1.eq_unread hf0; obtain rfl := harg2.eq_unread hf1; obtain rfl := harg3.eq_unread hf2; obtain rfl := harg5.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS0

/-- The first point stores nothing into the output; this value is never read. -/
def out1_A_3 (c : Dev nD) (i : grid1.Coords) (arg1 : Memref sig .tc .vmem S1x16x8x320 .i32) (harg1 : arg1.IsWhole) (arg2 : Memref sig .tc .vmem S1x16x8x320 .f32) (harg2 : arg2.IsWhole) (arg3 : Memref sig .tc .vmem S3x32x16x320 .bf16) (harg3 : arg3.IsWhole) (arg4 : Memref sig .tc .vmem S1x1 .f32) (harg4 : arg4.IsWhole) (arg5 : Memref sig .tc .vmem S264x96 .f32) (harg5 : arg5.IsWhole) (hc0 : cond1_0 i) (hc1 : ¬cond1_1 i)
    (x0 : Vec F S1x16x8x320 .i32) (x1 : Vec F S1x16x8x320 .f32) (x2 : Vec F S3x32x16x320 .bf16) : Vec F S1x1 .f32 :=
  VO1_3.read (Elt F) (VO1_3.writes (Elt F) VO1_3.junk (kernelRun1_A c i arg1 harg1 arg2 harg2 arg3 harg3 arg4 harg4 arg5 harg5 hc0 hc1 x0 x1 x2).1)

/-- The two pieces the first point writes cover the accumulator. -/
theorem scover1_A_0 (c : Dev nD) (i : grid1.Coords) (arg1 : Memref sig .tc .vmem S1x16x8x320 .i32) (harg1 : arg1.IsWhole) (arg2 : Memref sig .tc .vmem S1x16x8x320 .f32) (harg2 : arg2.IsWhole) (arg3 : Memref sig .tc .vmem S3x32x16x320 .bf16) (harg3 : arg3.IsWhole) (arg4 : Memref sig .tc .vmem S1x1 .f32) (harg4 : arg4.IsWhole) (arg5 : Memref sig .tc .vmem S264x96 .f32) (harg5 : arg5.IsWhole) (hc0 : cond1_0 i) (hc1 : ¬cond1_1 i)
    (x0 : Vec F S1x16x8x320 .i32) (x1 : Vec F S1x16x8x320 .f32) (x2 : Vec F S3x32x16x320 .bf16) (y : S264x96.Idx) :
    ∃ pc ∈ (kernelRun1_A c i arg1 harg1 arg2 harg2 arg3 harg3 arg4 harg4 arg5 harg5 hc0 hc1 x0 x1 x2).2.1, y ∈ pc.1.set :=
  View.cover_of_tiledL (kernelRun1_A c i arg1 harg1 arg2 harg2 arg3 harg3 arg4 harg4 arg5 harg5 hc0 hc1 x0 x1 x2).2.1 S264x96.size (by sl_kernel_rfl) y

/-- The accumulator after the first point. -/
def sout1_A_0 (c : Dev nD) (i : grid1.Coords) (arg1 : Memref sig .tc .vmem S1x16x8x320 .i32) (harg1 : arg1.IsWhole) (arg2 : Memref sig .tc .vmem S1x16x8x320 .f32) (harg2 : arg2.IsWhole) (arg3 : Memref sig .tc .vmem S3x32x16x320 .bf16) (harg3 : arg3.IsWhole) (arg4 : Memref sig .tc .vmem S1x1 .f32) (harg4 : arg4.IsWhole) (arg5 : Memref sig .tc .vmem S264x96 .f32) (harg5 : arg5.IsWhole) (hc0 : cond1_0 i) (hc1 : ¬cond1_1 i)
    (x0 : Vec F S1x16x8x320 .i32) (x1 : Vec F S1x16x8x320 .f32) (x2 : Vec F S3x32x16x320 .bf16) : Vec F S264x96 .f32 :=
  VS1_0.read (Elt F) (VS1_0.writes (Elt F) VS1_0.junk (kernelRun1_A c i arg1 harg1 arg2 harg2 arg3 harg3 arg4 harg4 arg5 harg5 hc0 hc1 x0 x1 x2).2.1)

/-- A point between stores nothing into the output; this value is never read. -/
def out1_B_3 (c : Dev nD) (i : grid1.Coords) (arg1 : Memref sig .tc .vmem S1x16x8x320 .i32) (harg1 : arg1.IsWhole) (arg2 : Memref sig .tc .vmem S1x16x8x320 .f32) (harg2 : arg2.IsWhole) (arg3 : Memref sig .tc .vmem S3x32x16x320 .bf16) (harg3 : arg3.IsWhole) (arg4 : Memref sig .tc .vmem S1x1 .f32) (harg4 : arg4.IsWhole) (arg5 : Memref sig .tc .vmem S264x96 .f32) (harg5 : arg5.IsWhole) (hc0 : ¬cond1_0 i) (hc1 : ¬cond1_1 i)
    (x0 : Vec F S1x16x8x320 .i32) (x1 : Vec F S1x16x8x320 .f32) (x2 : Vec F S3x32x16x320 .bf16) (xs0 : Vec F S264x96 .f32) : Vec F S1x1 .f32 :=
  VO1_3.read (Elt F) (VO1_3.writes (Elt F) VO1_3.junk (kernelRun1_B c i arg1 harg1 arg2 harg2 arg3 harg3 arg4 harg4 arg5 harg5 hc0 hc1 x0 x1 x2 xs0).1)

/-- The piece a point between writes covers the accumulator. -/
theorem scover1_B_0 (c : Dev nD) (i : grid1.Coords) (arg1 : Memref sig .tc .vmem S1x16x8x320 .i32) (harg1 : arg1.IsWhole) (arg2 : Memref sig .tc .vmem S1x16x8x320 .f32) (harg2 : arg2.IsWhole) (arg3 : Memref sig .tc .vmem S3x32x16x320 .bf16) (harg3 : arg3.IsWhole) (arg4 : Memref sig .tc .vmem S1x1 .f32) (harg4 : arg4.IsWhole) (arg5 : Memref sig .tc .vmem S264x96 .f32) (harg5 : arg5.IsWhole) (hc0 : ¬cond1_0 i) (hc1 : ¬cond1_1 i)
    (x0 : Vec F S1x16x8x320 .i32) (x1 : Vec F S1x16x8x320 .f32) (x2 : Vec F S3x32x16x320 .bf16) (xs0 : Vec F S264x96 .f32) (y : S264x96.Idx) :
    ∃ pc ∈ (kernelRun1_B c i arg1 harg1 arg2 harg2 arg3 harg3 arg4 harg4 arg5 harg5 hc0 hc1 x0 x1 x2 xs0).2.1, y ∈ pc.1.set :=
  View.cover_of_tiledL (kernelRun1_B c i arg1 harg1 arg2 harg2 arg3 harg3 arg4 harg4 arg5 harg5 hc0 hc1 x0 x1 x2 xs0).2.1 S264x96.size (by sl_kernel_rfl) y

/-- The accumulator after a point between. -/
def sout1_B_0 (c : Dev nD) (i : grid1.Coords) (arg1 : Memref sig .tc .vmem S1x16x8x320 .i32) (harg1 : arg1.IsWhole) (arg2 : Memref sig .tc .vmem S1x16x8x320 .f32) (harg2 : arg2.IsWhole) (arg3 : Memref sig .tc .vmem S3x32x16x320 .bf16) (harg3 : arg3.IsWhole) (arg4 : Memref sig .tc .vmem S1x1 .f32) (harg4 : arg4.IsWhole) (arg5 : Memref sig .tc .vmem S264x96 .f32) (harg5 : arg5.IsWhole) (hc0 : ¬cond1_0 i) (hc1 : ¬cond1_1 i)
    (x0 : Vec F S1x16x8x320 .i32) (x1 : Vec F S1x16x8x320 .f32) (x2 : Vec F S3x32x16x320 .bf16) (xs0 : Vec F S264x96 .f32) : Vec F S264x96 .f32 :=
  VS1_0.read (Elt F) (VS1_0.writes (Elt F) VS1_0.junk (kernelRun1_B c i arg1 harg1 arg2 harg2 arg3 harg3 arg4 harg4 arg5 harg5 hc0 hc1 x0 x1 x2 xs0).2.1)

/-- The piece the last point writes covers the output. -/
theorem cover1_C_3 (c : Dev nD) (i : grid1.Coords) (arg1 : Memref sig .tc .vmem S1x16x8x320 .i32) (harg1 : arg1.IsWhole) (arg2 : Memref sig .tc .vmem S1x16x8x320 .f32) (harg2 : arg2.IsWhole) (arg3 : Memref sig .tc .vmem S3x32x16x320 .bf16) (harg3 : arg3.IsWhole) (arg4 : Memref sig .tc .vmem S1x1 .f32) (harg4 : arg4.IsWhole) (arg5 : Memref sig .tc .vmem S264x96 .f32) (harg5 : arg5.IsWhole) (hc0 : ¬cond1_0 i) (hc1 : cond1_1 i)
    (x0 : Vec F S1x16x8x320 .i32) (x1 : Vec F S1x16x8x320 .f32) (x2 : Vec F S3x32x16x320 .bf16) (xs0 : Vec F S264x96 .f32) (y : S1x1.Idx) :
    ∃ pc ∈ (kernelRun1_C c i arg1 harg1 arg2 harg2 arg3 harg3 arg4 harg4 arg5 harg5 hc0 hc1 x0 x1 x2 xs0).1, y ∈ pc.1.set :=
  View.cover_of_tiledL (kernelRun1_C c i arg1 harg1 arg2 harg2 arg3 harg3 arg4 harg4 arg5 harg5 hc0 hc1 x0 x1 x2 xs0).1 S1x1.size (by sl_kernel_rfl) y

/-- The output after the last point. -/
def out1_C_3 (c : Dev nD) (i : grid1.Coords) (arg1 : Memref sig .tc .vmem S1x16x8x320 .i32) (harg1 : arg1.IsWhole) (arg2 : Memref sig .tc .vmem S1x16x8x320 .f32) (harg2 : arg2.IsWhole) (arg3 : Memref sig .tc .vmem S3x32x16x320 .bf16) (harg3 : arg3.IsWhole) (arg4 : Memref sig .tc .vmem S1x1 .f32) (harg4 : arg4.IsWhole) (arg5 : Memref sig .tc .vmem S264x96 .f32) (harg5 : arg5.IsWhole) (hc0 : ¬cond1_0 i) (hc1 : cond1_1 i)
    (x0 : Vec F S1x16x8x320 .i32) (x1 : Vec F S1x16x8x320 .f32) (x2 : Vec F S3x32x16x320 .bf16) (xs0 : Vec F S264x96 .f32) : Vec F S1x1 .f32 :=
  VO1_3.read (Elt F) (VO1_3.writes (Elt F) VO1_3.junk (kernelRun1_C c i arg1 harg1 arg2 harg2 arg3 harg3 arg4 harg4 arg5 harg5 hc0 hc1 x0 x1 x2 xs0).1)

/-- The piece the last point writes covers the accumulator. -/
theorem scover1_C_0 (c : Dev nD) (i : grid1.Coords) (arg1 : Memref sig .tc .vmem S1x16x8x320 .i32) (harg1 : arg1.IsWhole) (arg2 : Memref sig .tc .vmem S1x16x8x320 .f32) (harg2 : arg2.IsWhole) (arg3 : Memref sig .tc .vmem S3x32x16x320 .bf16) (harg3 : arg3.IsWhole) (arg4 : Memref sig .tc .vmem S1x1 .f32) (harg4 : arg4.IsWhole) (arg5 : Memref sig .tc .vmem S264x96 .f32) (harg5 : arg5.IsWhole) (hc0 : ¬cond1_0 i) (hc1 : cond1_1 i)
    (x0 : Vec F S1x16x8x320 .i32) (x1 : Vec F S1x16x8x320 .f32) (x2 : Vec F S3x32x16x320 .bf16) (xs0 : Vec F S264x96 .f32) (y : S264x96.Idx) :
    ∃ pc ∈ (kernelRun1_C c i arg1 harg1 arg2 harg2 arg3 harg3 arg4 harg4 arg5 harg5 hc0 hc1 x0 x1 x2 xs0).2.1, y ∈ pc.1.set :=
  View.cover_of_tiledL (kernelRun1_C c i arg1 harg1 arg2 harg2 arg3 harg3 arg4 harg4 arg5 harg5 hc0 hc1 x0 x1 x2 xs0).2.1 S264x96.size (by sl_kernel_rfl) y

/-- The accumulator after the last point. -/
def sout1_C_0 (c : Dev nD) (i : grid1.Coords) (arg1 : Memref sig .tc .vmem S1x16x8x320 .i32) (harg1 : arg1.IsWhole) (arg2 : Memref sig .tc .vmem S1x16x8x320 .f32) (harg2 : arg2.IsWhole) (arg3 : Memref sig .tc .vmem S3x32x16x320 .bf16) (harg3 : arg3.IsWhole) (arg4 : Memref sig .tc .vmem S1x1 .f32) (harg4 : arg4.IsWhole) (arg5 : Memref sig .tc .vmem S264x96 .f32) (harg5 : arg5.IsWhole) (hc0 : ¬cond1_0 i) (hc1 : cond1_1 i)
    (x0 : Vec F S1x16x8x320 .i32) (x1 : Vec F S1x16x8x320 .f32) (x2 : Vec F S3x32x16x320 .bf16) (xs0 : Vec F S264x96 .f32) : Vec F S264x96 .f32 :=
  VS1_0.read (Elt F) (VS1_0.writes (Elt F) VS1_0.junk (kernelRun1_C c i arg1 harg1 arg2 harg2 arg3 harg3 arg4 harg4 arg5 harg5 hc0 hc1 x0 x1 x2 xs0).2.1)

/-! ## What the outputs hold after each point -/

/-- The output and the accumulator after the body at position `n`, each point starting from the accumulator the one before left. -/
def outsAt1 (c : Dev nD) : (n : ℕ) → n < cfg1.N → Vec F S1x1 .f32 × Vec F S264x96 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk V c 0 ⟨0, hn⟩) (iblk V c 1 ⟨0, hn⟩) (iblk V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk V c 0 ⟨0, hn⟩) (iblk V c 1 ⟨0, hn⟩) (iblk V c 2 ⟨0, hn⟩))
  | n + 1, hn =>
    if h0 : (n + 1) % 32 = 0 then
      if h1 : (n + 1) % 32 = 31 then
        False.elim (by have hN : n + 1 < 32 := lt_of_lt_of_eq hn (show cfg1.N = 32 from N_1); omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk V c 0 ⟨n + 1, hn⟩) (iblk V c 1 ⟨n + 1, hn⟩) (iblk V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk V c 0 ⟨n + 1, hn⟩) (iblk V c 1 ⟨n + 1, hn⟩) (iblk V c 2 ⟨n + 1, hn⟩))
    else
      if h1 : (n + 1) % 32 = 31 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk V c 0 ⟨n + 1, hn⟩) (iblk V c 1 ⟨n + 1, hn⟩) (iblk V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk V c 0 ⟨n + 1, hn⟩) (iblk V c 1 ⟨n + 1, hn⟩) (iblk V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk V c 0 ⟨n + 1, hn⟩) (iblk V c 1 ⟨n + 1, hn⟩) (iblk V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk V c 0 ⟨n + 1, hn⟩) (iblk V c 1 ⟨n + 1, hn⟩) (iblk V c 2 ⟨n + 1, hn⟩) (outsAt1 c n (Nat.lt_of_succ_lt hn)).2)

/-- The first point's contents, -/
theorem outsAt1_A (c : Dev nD) (t : Fin cfg1.N) (h0 : t.val % 32 = 0) (h1 : ¬t.val % 32 = 31) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk V c 0 t) (iblk V c 1 t) (iblk V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk V c 0 t) (iblk V c 1 t) (iblk V c 2 t)) := by
  obtain ⟨n, hn⟩ := t
  cases n with
  | zero => exact rfl
  | succ n => exact (dif_pos h0).trans ((dif_neg h1).trans rfl)

/-- the contents at a point between, from those before it, -/
theorem outsAt1_B (c : Dev nD) (t : Fin cfg1.N) (h0 : ¬t.val % 32 = 0) (h1 : ¬t.val % 32 = 31) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk V c 0 t) (iblk V c 1 t) (iblk V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk V c 0 t) (iblk V c 1 t) (iblk V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- and the last point's, from those before it. -/
theorem outsAt1_C (c : Dev nD) (t : Fin cfg1.N) (h0 : ¬t.val % 32 = 0) (h1 : t.val % 32 = 31) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk V c 0 t) (iblk V c 1 t) (iblk V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk V c 0 t) (iblk V c 1 t) (iblk V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- What rides between the points: before the first, everything at some contents; later the accumulator at what the point before left,
    the other buffers and the random-number register at some contents. -/
def PhiS (c : Dev nD) : (n : ℕ) → n ≤ cfg1.N → sProp 𝕄
  | 0, _ => Pipeline.ΦA spec1 c
  | n + 1, hn => iprop(iprop(owns (c : Thread nD τ) scM1_0 fullShare ((outsAt1 V c n hn).2)) ∗ (others c ∗ ∃ r, prngReg c r))

/-- Before the first point: what the call starts with. -/
theorem PhiS_zero (c : Dev nD) (n : ℕ) (h : n ≤ cfg1.N) (hz : n = 0) : PhiS V c n h = Pipeline.ΦA spec1 c := by
  subst hz; rfl

/-- After point `n`: the accumulator at that point's contents. -/
theorem PhiS_succ (c : Dev nD) (n : ℕ) (hn : n < cfg1.N) :
    PhiS V c (n + 1) hn = iprop(iprop(owns (c : Thread nD τ) scM1_0 fullShare ((outsAt1 V c n hn).2)) ∗ (others c ∗ ∃ r, prngReg c r)) := rfl

/-- Before a later point: the accumulator at the contents of the point before. -/
theorem PhiS_pos (c : Dev nD) (n : ℕ) (h : n ≤ cfg1.N) (hz : n ≠ 0) :
    PhiS V c n h = iprop(iprop(owns (c : Thread nD τ) scM1_0 fullShare ((outsAt1 V c (n - 1) (by omega)).2)) ∗ (others c ∗ ∃ r, prngReg c r)) := by
  cases n with
  | zero => exact absurd rfl hz
  | succ n => rfl

/-! ## The call's proof data -/

/-- The proof data of the call on core `c`: the arrays as found; after each point the inputs' blocks and the output; between the points the
    accumulator; nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => (outsAt1 V c t.val t.isLt).1
  Φ t := PhiS V c t.val (Nat.le_of_lt_succ t.isLt)
  q _ := fullShare
  owed _ := 0

/-- The arrays of the proof data are those the call finds. -/
theorem A_eq (c : Dev nD) (w : Fin cfg1.W) : (dat V c).A w = V c (Pipeline.arrRef spec1 w) := by
  dsimp only [dat]

/-- What rides at the start of a point. -/
theorem PhiS_castSucc (c : Dev nD) (t : Fin cfg1.N) :
    (dat V c).Φ t.castSucc = PhiS V c t.val (Nat.le_of_lt t.isLt) := by
  dsimp only [dat]; exact Pipeline.Dat.Φ_castSucc (PhiS V c) t

/-- What the body leaves in window 0, an input, -/
theorem after1_0 (c : Dev nD) (t : Fin cfg1.N) : (dat V c).after 0 t = iblk V c 0 t := by dsimp only [dat]
/-- in window 1, an input, -/
theorem after1_1 (c : Dev nD) (t : Fin cfg1.N) : (dat V c).after 1 t = iblk V c 1 t := by dsimp only [dat]
/-- in window 2, an input, -/
theorem after1_2 (c : Dev nD) (t : Fin cfg1.N) : (dat V c).after 2 t = iblk V c 2 t := by dsimp only [dat]
/-- and in the output. -/
theorem after1_3 (c : Dev nD) (t : Fin cfg1.N) : (dat V c).after 3 t = (outsAt1 V c t.val t.isLt).1 := by dsimp only [dat]

/-- What the body finds in window 0: its block, -/
theorem before1_0 (c : Dev nD) (t : Fin cfg1.N) (d) : (dat V c).before 0 t d = iblk V c 0 t :=
  before1_0_of V (dat V c) (A_eq V c 0) (after1_0 V c) t d
/-- and likewise in window 1, -/
theorem before1_1 (c : Dev nD) (t : Fin cfg1.N) (d) : (dat V c).before 1 t d = iblk V c 1 t :=
  before1_1_of V (dat V c) (A_eq V c 1) (after1_1 V c) t d
/-- and likewise in window 2. -/
theorem before1_2 (c : Dev nD) (t : Fin cfg1.N) (d) : (dat V c).before 2 t d = iblk V c 2 t :=
  before1_2_of V (dat V c) (A_eq V c 2) (after1_2 V c) t d

/-! ## The body at any point -/

/-- What the body is given at point `t`, window by window, -/
def bodyPre (c : Dev nD) (t : Fin cfg1.N) : sProp 𝕄 :=
  iprop((dat V c).Φ t.castSucc ∗ (dat V c).owesAt () t.castSucc
    ∗ (∃ d, owns (c : Thread nD τ) (ms1_0 t) fullShare ((dat V c).before 0 t d))
    ∗ (∃ d, owns (c : Thread nD τ) (ms1_1 t) fullShare ((dat V c).before 1 t d))
    ∗ (∃ d, owns (c : Thread nD τ) (ms1_2 t) fullShare ((dat V c).before 2 t d))
    ∗ (∃ d, owns (c : Thread nD τ) (ms1_3 t) fullShare ((dat V c).before 3 t d)))

/-- and what it gives back. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point, in the case the point falls in: it takes the accumulator at what the point before left and leaves it at this
    point's contents. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2]
  rw [show (dat V c).owesAt () t.succ = (dat V c).owesAt () t.castSucc from rfl]
  rw [show (dat V c).Φ t.succ = PhiS V c (t.val + 1) t.isLt from rfl, PhiS_succ]
  have hN : t.val < 32 := lt_of_lt_of_eq t.isLt (show cfg1.N = 32 from N_1)
  by_cases h0 : t.val % 32 = 0
  · by_cases h1 : t.val % 32 = 31
    · exfalso; omega
    · rw [show (dat V c).leavesExact 0 t = owns (c : Thread nD τ) (ms1_0 t) fullShare ((dat V c).after 0 t) from by
      unfold Dat.leavesExact; rw [liveAt1_0 t], after1_0]
      rw [show (dat V c).leavesExact 1 t = owns (c : Thread nD τ) (ms1_1 t) fullShare ((dat V c).after 1 t) from by
      unfold Dat.leavesExact; rw [liveAt1_1 t], after1_1]
      rw [show (dat V c).leavesExact 2 t = owns (c : Thread nD τ) (ms1_2 t) fullShare ((dat V c).after 2 t) from by
      unfold Dat.leavesExact; rw [liveAt1_2 t], after1_2]
      rw [Dat.leavesExact_idle (dat V c) 3 t (idleAt0_3_A t ((hcond1_0 t).mpr h0) (fun h => h1 ((hcond1_1 t).mp h))) (noFlush0_3_A t ((hcond1_0 t).mpr h0) (fun h => h1 ((hcond1_1 t).mp h)))]
      by_cases hz : t.val = 0
      · rw [PhiS_castSucc V c t, PhiS_zero V c _ _ hz, PhiA1_eq]
        rw [outsAt1_A V c t h0 h1]
        unfold sout1_A_0; (try dsimp only)
        iintro ⟨⟨HS0, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk V c 0 t) (iblk V c 1 t) (iblk V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · exfalso; have hN : t.val < 32 := lt_of_lt_of_eq t.isLt (show cfg1.N = 32 from N_1); omega
  · by_cases h1 : t.val % 32 = 31
    · rw [show (dat V c).leavesExact 0 t = owns (c : Thread nD τ) (ms1_0 t) fullShare ((dat V c).after 0 t) from by
      unfold Dat.leavesExact; rw [liveAt1_0 t], after1_0]
      rw [show (dat V c).leavesExact 1 t = owns (c : Thread nD τ) (ms1_1 t) fullShare ((dat V c).after 1 t) from by
      unfold Dat.leavesExact; rw [liveAt1_1 t], after1_1]
      rw [show (dat V c).leavesExact 2 t = owns (c : Thread nD τ) (ms1_2 t) fullShare ((dat V c).after 2 t) from by
      unfold Dat.leavesExact; rw [liveAt1_2 t], after1_2]
      rw [show (dat V c).leavesExact 3 t = owns (c : Thread nD τ) (ms1_3 t) fullShare ((dat V c).after 3 t) from by
      unfold Dat.leavesExact; rw [liveAt1_3_C t (fun h => h0 ((hcond1_0 t).mp h)) ((hcond1_1 t).mpr h1)], after1_3]
      by_cases hz : t.val = 0
      · exfalso; have hN : t.val < 32 := lt_of_lt_of_eq t.isLt (show cfg1.N = 32 from N_1); omega
      · rw [PhiS_castSucc V c t, PhiS_pos V c _ _ hz]
        rw [outsAt1_C V c t h0 h1]
        unfold out1_C_3 sout1_C_0; (try dsimp only)
        iintro ⟨⟨HS0, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk V c 0 t) (iblk V c 1 t) (iblk V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hg]
        · isplitl [HS0]
          · unfold owns; iexists _; isplitr
            swap; · iexact HS0
            ipureintro; exact View.read_writes_of_cover _ _ _ _ _ (scover1_C_0 c _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    · rw [show (dat V c).leavesExact 0 t = owns (c : Thread nD τ) (ms1_0 t) fullShare ((dat V c).after 0 t) from by
      unfold Dat.leavesExact; rw [liveAt1_0 t], after1_0]
      rw [show (dat V c).leavesExact 1 t = owns (c : Thread nD τ) (ms1_1 t) fullShare ((dat V c).after 1 t) from by
      unfold Dat.leavesExact; rw [liveAt1_1 t], after1_1]
      rw [show (dat V c).leavesExact 2 t = owns (c : Thread nD τ) (ms1_2 t) fullShare ((dat V c).after 2 t) from by
      unfold Dat.leavesExact; rw [liveAt1_2 t], after1_2]
      rw [Dat.leavesExact_idle (dat V c) 3 t (idleAt0_3_B t (fun h => h0 ((hcond1_0 t).mp h)) (fun h => h1 ((hcond1_1 t).mp h))) (noFlush0_3_B t (fun h => h0 ((hcond1_0 t).mp h)) (fun h => h1 ((hcond1_1 t).mp h)))]
      by_cases hz : t.val = 0
      · exfalso; have hN : t.val < 32 := lt_of_lt_of_eq t.isLt (show cfg1.N = 32 from N_1); omega
      · rw [PhiS_castSucc V c t, PhiS_pos V c _ _ hz]
        rw [outsAt1_B V c t h0 h1]
        unfold sout1_B_0; (try dsimp only)
        iintro ⟨⟨HS0, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk V c 0 t) (iblk V c 1 t) (iblk V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover1_B_0 c _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The body that the call runs at point `t`. -/
theorem defs₀_row (t : Fin cfg1.N) :
    defs₀ (F := F) .tc cfg1.body (cfg1.bodyArgs t (cfg1.slots t)) = bodyAt1 t := by
  unfold defs₀; rw [Defs.onTc_tc]

/-- The body meets the proof data at every point. -/
theorem body_obligation (c : Dev nD) : BodyObligation (dat (F := F) V c) (defs₀ (F := F)) Variants.none () Set.univ := fun t => by
  rw [bigSep_W1, bigSep_W1, defs₀_row]
  exact triple_restated (sound_body V c t) rfl .rfl fun _ => .rfl

/-- What the call starts with is what rides before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point, forgetting the accumulator's contents gives back what the call started with; -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA1_eq]
  iintro ⟨HS0, Hg⟩
  isplitl [HS0]
  · iexists _; iexact HS0
  iexact Hg

/-- so too after the last. -/
theorem hout (c : Dev nD) : (dat V c).Φ (Fin.last cfg1.N) ⊢ Pipeline.ΦA spec1 c :=
  Phi_out V c _ (by rw [Fin.val_last]; have : cfg1.N = 32 := N_1; omega)

end Cert.KernelIdeal.Bins

end
-- ==== Proof.KernelIdeal.Run.lean ====
/- The whole program's run: the host operations, then the two pallas_calls as regions, each entered from the buffer contents the
   one before left. From it: the program terminates with its arguments unchanged and every counter at zero, and its result is the
   last block the second call writes. -/
module

public import proofs.«01_k».proof.Proof.Gen.KernelIdeal.Regions
public import proofs.«01_k».proof.Proof.KernelIdeal.Dft
public import proofs.«01_k».proof.Proof.KernelIdeal.Bins
public import Idealize.ShloMosaic.Lib.Pipeline.RegionArrays

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

local notation "𝕄" => MT nD τ sig Unit (Elt F) ℕ (UR sig nD τ) ℕ

/-- Memory at launch. -/
abbrev Mem (F : FTy → Type) [FloatOps F] [Named F] : Type := (ℓ : Loc nD τ sig) → Buf (Elt F) ℓ

/-- No loop of the program needs a variant. -/
abbrev variants : Variants := Variants.none
/-- The cells of a core have one level, -/
abbrev levels : GSem nD τ sig → Finset Unit := fun g => if g.1.2 = .tc then {()} else ∅
/-- which is zero, -/
abbrev levelOf : GSem nD τ sig → Unit → ℕ := fun _ _ => 0
/-- and nothing is owed at the start. -/
abbrev owed0 : Dev nD → CellTallies nD τ sig Unit := fun _ => 0

/-! ## The contents at the boundaries -/

/-- What the first call finds in each buffer. -/
abbrev before0 (m : Mem F) (c : Dev nD) (b : Ref sig .tc) : Buf (Elt F) ((c : Thread nD τ).loc b) := V1 m c (Proc.devRef .tc b)
/-- What the first call leaves in its output. -/
def prods (m : Mem F) (c : Dev nD) : Buf (Elt F) ((c : Thread nD τ).loc main_v96) :=
  (Dft.dat (Ix := Unit) (U := UR sig nD τ) (Lvl := ℕ) variants (before0 m) owed0 c).arrAt 7 cfg0.N
/-- The buffers between the two calls. -/
def mid (m : Mem F) (c : Dev nD) : Valuation τ sig (Elt F) := Function.update (V1 m c) main_v96 (prods m c)
/-- What the second call finds in each buffer. -/
abbrev before1 (m : Mem F) (c : Dev nD) (b : Ref sig .tc) : Buf (Elt F) ((c : Thread nD τ).loc b) := mid m c (Proc.devRef .tc b)
/-- What the second call leaves in its output. -/
def loss (m : Mem F) (c : Dev nD) : Buf (Elt F) ((c : Thread nD τ).loc main_v97) := (Bins.dat (before1 m) c).arrAt 3 cfg1.N

/-- The contents the two calls leave, as the frame asks for them. -/
def outs (m : Mem F) : Outs (F := F) := fun _ =>
  Function.update (β := fun r : Ref sig .tc => (c : Dev nD) → Buf (Elt F) ((c : Thread nD τ).loc r))
    (Function.update (β := fun r : Ref sig .tc => (c : Dev nD) → Buf (Elt F) ((c : Thread nD τ).loc r))
      (fun r c => m ((c : Thread nD τ).loc r)) main_v96 (prods m)) main_v97 (loss m)

/-- They are the products of the first call -/
theorem outs_prods (m : Mem F) (n : ℕ) (c : Dev nD) : outs m n main_v96 c = prods m c := by
  unfold outs
  rw [Function.update_of_ne (by decide), Function.update_self]
/-- and the loss of the second. -/
theorem outs_loss (m : Mem F) (n : ℕ) (c : Dev nD) : outs m n main_v97 c = loss m c := by
  unfold outs
  rw [Function.update_self]

/-- The valuation between the calls is `mid`. -/
theorem V2_mid (m : Mem F) (c : Dev nD) : V2 m (outs m) c = mid m c := by
  show Function.update (V1 m c) main_v96 (outs m 2 main_v96 c) = Function.update (V1 m c) main_v96 (prods m c)
  rw [outs_prods]

/-- After the first call its output holds the products. -/
theorem V2_prods (m : Mem F) (c : Dev nD) : V2 m (outs m) c (Proc.devRef .tc main_v96) = prods m c := by
  show Function.update (V1 m c) main_v96 (outs m 2 main_v96 c) _ = _
  rw [Function.update_self, outs_prods]
/-- After the second call its output holds the loss. -/
theorem V3_loss (m : Mem F) (c : Dev nD) : V3 m (outs m) c (Proc.devRef .tc main_v97) = loss m c := by
  show Function.update (V2 m (outs m) c) main_v97 (outs m 3 main_v97 c) _ = _
  rw [Function.update_self, outs_loss]

/-! ## The calls' arrays among the buffers -/

/-- An array of the first call is among its arrays, -/
theorem mem0 (w : Fin cfg0.W) : (Proc.devRef .tc (Pipeline.arrRef spec0 w) : DevRef τ sig) ∈ Pipeline.arrRefs (τ := τ) spec0 :=
  Finset.mem_map_of_mem _ (Finset.mem_image_of_mem _ (Finset.mem_univ w))
/-- and one of the second call among those. -/
theorem mem1 (w : Fin cfg1.W) : (Proc.devRef .tc (Pipeline.arrRef spec1 w) : DevRef τ sig) ∈ Pipeline.arrRefs (τ := τ) spec1 :=
  Finset.mem_map_of_mem _ (Finset.mem_image_of_mem _ (Finset.mem_univ w))
/-- The first call's arrays are buffers of the program, -/
theorem sub0 : Pipeline.arrRefs (τ := τ) spec0 ⊆ Pipeline.ucRefs τ sig := Pipeline.arrRefs_sub_ucRefs spec0 (by decide)
/-- and the second's. -/
theorem sub1 : Pipeline.arrRefs (τ := τ) spec1 ⊆ Pipeline.ucRefs τ sig := Pipeline.arrRefs_sub_ucRefs spec1 (by decide)

/-- The first call changes none of the buffers that are not its arrays. -/
theorem rest0 (m : Mem F) (c : Dev nD) : ∀ b ∈ (Pipeline.ucRefs τ sig) \ Pipeline.arrRefs (τ := τ) spec0, V2 m (outs m) c b = V1 m c b :=
  fun b hb => by
  have hn : b ≠ Proc.devRef .tc main_v96 := by rintro rfl; exact (Finset.mem_sdiff.mp hb).2 (mem0 7)
  simp only [V2, Function.update_of_ne hn]
/-- The second call changes none of the buffers that are not its arrays. -/
theorem rest1 (m : Mem F) (c : Dev nD) : ∀ b ∈ (Pipeline.ucRefs τ sig) \ Pipeline.arrRefs (τ := τ) spec1, V3 m (outs m) c b = V2 m (outs m) c b :=
  fun b hb => by
  have hn : b ≠ Proc.devRef .tc main_v97 := by rintro rfl; exact (Finset.mem_sdiff.mp hb).2 (mem1 3)
  simp only [V3, Function.update_of_ne hn]

/-- Both pipelines' proof data. -/
def pdats (m : Mem F) : (p : Fin 2) → (c : Dev nD) → Dat τ (Elt F) Unit ℕ (UR sig nD τ) ℕ (cfgs p) c
  | ⟨0, _⟩ => fun c => Dft.dat variants (before0 m) owed0 c
  | ⟨1, _⟩ => fun c => Bins.dat (before1 m) c

/-- What rides beside the buffers: the random-number register and an empty tally. -/
abbrev beside (c : Dev nD) : sProp 𝕄 := iprop((∃ r, prngReg c r) ∗ ∃ W, owes (c : Thread nD τ) (0 : CellTallies nD τ sig Unit) W)

/-- The first call may wait on its own cells, -/
theorem cut0 : Pipeline.LevelCut (pcfgs (F := F)) adm () levels levelOf 0 owed0 (fun _ => 0) where
  hι _ _ _ := by simp [levels]
  hιb _ _ _ := le_refl _
  hD _ _ _ h := absurd h (lt_irrefl _)
/-- and the second on its own. -/
theorem cut1 : Pipeline.LevelCut (pcfgs (F := F)) adm () levels levelOf 1 owed0 (fun _ => 0) where
  hι _ _ _ := by simp [levels]
  hιb _ _ _ := le_refl _
  hD _ _ _ h := absurd h (lt_irrefl _)

/-! ## The calls as regions -/

/-- Every window of the first call but the last is an input, -/
theorem input0 : ∀ w : Fin cfg0.W, w ≠ 7 → (cfg0.win w).isOut = false := by decide
/-- and its array is not the output's. -/
theorem notOut0 : ∀ w : Fin cfg0.W, w ≠ 7 → Pipeline.arrRef spec0 w ∉ ([main_v96] : List (Ref sig .tc)) := by decide
/-- What each window's array of the first call holds at its end. -/
theorem end0 (m : Mem F) (c : Dev nD) (w : Fin cfg0.W) :
    (pdats m 0 c).arrAt w cfg0.N = V2 m (outs m) c (Proc.devRef .tc (Pipeline.arrRef spec0 w)) := by
  by_cases h : w = 7
  · subst h
    exact (V2_prods m c).symm
  · exact ((pdats m 0 c).arrAt_in w (input0 w h) _).trans
      ((Dft.A_eq (Ix := Unit) (U := UR sig nD τ) (Lvl := ℕ) variants (before0 m) owed0 c w).trans
        (V2_of m (outs m) c (Pipeline.arrRef spec0 w) (notOut0 w h)).symm)
/-- What each window's array of the second call holds at its end. -/
theorem end1 (m : Mem F) (c : Dev nD) : (w : Fin cfg1.W) →
    (pdats m 1 c).arrAt w cfg1.N = V3 m (outs m) c (Proc.devRef .tc (Pipeline.arrRef spec1 w))
  | 0 => ((pdats m 1 c).arrAt_in 0 rfl _).trans ((Bins.A_eq (before1 m) c 0).trans ((congrFun (V2_mid m c) _).symm.trans (V3_of m (outs m) c (Pipeline.arrRef spec1 0) (by decide)).symm))
  | 1 => ((pdats m 1 c).arrAt_in 1 rfl _).trans ((Bins.A_eq (before1 m) c 1).trans ((congrFun (V2_mid m c) _).symm.trans (V3_of m (outs m) c (Pipeline.arrRef spec1 1) (by decide)).symm))
  | 2 => ((pdats m 1 c).arrAt_in 2 rfl _).trans ((Bins.A_eq (before1 m) c 2).trans ((congrFun (V2_mid m c) _).symm.trans (V3_of m (outs m) c (Pipeline.arrRef spec1 2) (by decide)).symm))
  | 3 => (V3_loss m c).symm
  | ⟨_ + 4, h⟩ => absurd h (Nat.not_lt.2 (Nat.le_add_left _ _))
/-- The second call's arrays as it finds them. -/
theorem start1 (m : Mem F) (c : Dev nD) (w : Fin cfg1.W) :
    (pdats m 1 c).arrAt w 0 = V2 m (outs m) c (Proc.devRef .tc (Pipeline.arrRef spec1 w)) := by
  rw [V2_mid]
  rfl

set_option backward.isDefEq.respectTransparency.types false in
/-- The first call, from the host operations' contents. -/
def region0 (m : Mem F) : RegionSeg (pcfgs (F := F)) adm (pdats m) () defs₀ variants levels levelOf 0 :=
  Pipeline.RegionSeg.ofHeld (pcfgs (F := F)) adm (pdats m) () defs₀ variants levels levelOf 0 owed0
    (fun c => iprop(∃ r, prngReg c r)) (fun c => iprop(∃ r, prngReg c r))
    launch0.toP rfl
    (fun c => (Dft.body_obligation (U := UR sig nD τ) (Lvl := ℕ) variants (before0 m) owed0 () c).loose) (fun _ _ => rfl) (fun _ => rfl)
    (fun c => (pdats m 0 c).share_full fun _ => rfl) (fun _ => .rfl) (fun _ => .rfl) (fun _ => 0) cut0
    (fun c => iprop(StableHlo.held (c : Thread nD τ) ((Pipeline.ucRefs τ sig) \ Pipeline.arrRefs (τ := τ) spec0) (V1 m c) ∗ emp))
    (V1 m) (V2 m (outs m)) (fun _ _ => rfl) (end0 m)

set_option backward.isDefEq.respectTransparency.types false in
/-- The second call, from what the first left. -/
def region1 (m : Mem F) : RegionSeg (pcfgs (F := F)) adm (pdats m) () defs₀ variants levels levelOf 1 :=
  Pipeline.RegionSeg.ofHeld (pcfgs (F := F)) adm (pdats m) () defs₀ variants levels levelOf 1 owed0
    (fun c => iprop(∃ r, prngReg c r)) (fun c => iprop(∃ r, prngReg c r))
    launch1.toP rfl
    (fun c => (Bins.body_obligation (before1 m) c).loose) (fun _ _ => rfl) (fun _ => rfl)
    (fun c => (pdats m 1 c).share_full fun _ => rfl) (fun c => Bins.hin (before1 m) c) (fun c => Bins.hout (before1 m) c) (fun _ => 0) cut1
    (fun c => iprop(StableHlo.held (c : Thread nD τ) ((Pipeline.ucRefs τ sig) \ Pipeline.arrRefs (τ := τ) spec1) (V2 m (outs m) c) ∗ emp))
    (V2 m (outs m)) (V3 m (outs m)) (start1 m) (end1 m)

/-- Into call 0: its arrays taken out of the buffers. -/
theorem pre0 (m : Mem F) (c : Dev nD) :
    iprop(StableHlo.held (c : Thread nD τ) (Pipeline.ucRefs τ sig) (V1 m c) ∗ beside c) ⊢ (region0 m).pre c := by
  show _ ⊢ iprop(StableHlo.held (c : Thread nD τ) (Pipeline.arrRefs (τ := τ) spec0) (V1 m c) ∗ (∃ r, prngReg c r)
    ∗ (StableHlo.held (c : Thread nD τ) ((Pipeline.ucRefs τ sig) \ Pipeline.arrRefs (τ := τ) spec0) (V1 m c) ∗ emp)
    ∗ ∃ W, owes (c : Thread nD τ) (owed0 c) W)
  rw [StableHlo.held_sub_split (c : Thread nD τ) sub0 (V1 m c)]
  iintro ⟨⟨Ha, Hr⟩, Hp, HO⟩
  isplitl [Ha]; · iexact Ha
  isplitl [Hp]; · iexact Hp
  isplitl [Hr]
  · isplitl [Hr]; · iexact Hr
    iempintro
  iexact HO
/-- Out of call 0: its arrays put back. -/
theorem post0 (m : Mem F) (c : Dev nD) :
    (region0 m).post c ⊢ iprop(StableHlo.held (c : Thread nD τ) (Pipeline.ucRefs τ sig) (V2 m (outs m) c) ∗ beside c) := by
  show iprop(StableHlo.held (c : Thread nD τ) (Pipeline.arrRefs (τ := τ) spec0) (V2 m (outs m) c) ∗ (∃ r, prngReg c r)
    ∗ (StableHlo.held (c : Thread nD τ) ((Pipeline.ucRefs τ sig) \ Pipeline.arrRefs (τ := τ) spec0) (V1 m c) ∗ emp)
    ∗ ∃ W, owes (c : Thread nD τ) (owed0 c) W) ⊢ _
  rw [StableHlo.held_sub_split (c : Thread nD τ) sub0 (V2 m (outs m) c),
    StableHlo.held_congr (c : Thread nD τ) (S := (Pipeline.ucRefs τ sig) \ Pipeline.arrRefs (τ := τ) spec0) (rest0 m c)]
  iintro ⟨Ha, Hp, ⟨Hr, -⟩, HO⟩
  isplitl [Ha Hr]; · isplitl [Ha] <;> iassumption
  isplitl [Hp]; · iexact Hp
  iexact HO
/-- Into call 1: its arrays taken out of the buffers. -/
theorem pre1 (m : Mem F) (c : Dev nD) :
    iprop(StableHlo.held (c : Thread nD τ) (Pipeline.ucRefs τ sig) (V2 m (outs m) c) ∗ beside c) ⊢ (region1 m).pre c := by
  show _ ⊢ iprop(StableHlo.held (c : Thread nD τ) (Pipeline.arrRefs (τ := τ) spec1) (V2 m (outs m) c) ∗ (∃ r, prngReg c r)
    ∗ (StableHlo.held (c : Thread nD τ) ((Pipeline.ucRefs τ sig) \ Pipeline.arrRefs (τ := τ) spec1) (V2 m (outs m) c) ∗ emp)
    ∗ ∃ W, owes (c : Thread nD τ) (owed0 c) W)
  rw [StableHlo.held_sub_split (c : Thread nD τ) sub1 (V2 m (outs m) c)]
  iintro ⟨⟨Ha, Hr⟩, Hp, HO⟩
  isplitl [Ha]; · iexact Ha
  isplitl [Hp]; · iexact Hp
  isplitl [Hr]
  · isplitl [Hr]; · iexact Hr
    iempintro
  iexact HO
/-- Out of call 1: its arrays put back. -/
theorem post1 (m : Mem F) (c : Dev nD) :
    (region1 m).post c ⊢ iprop(StableHlo.held (c : Thread nD τ) (Pipeline.ucRefs τ sig) (V3 m (outs m) c) ∗ beside c) := by
  show iprop(StableHlo.held (c : Thread nD τ) (Pipeline.arrRefs (τ := τ) spec1) (V3 m (outs m) c) ∗ (∃ r, prngReg c r)
    ∗ (StableHlo.held (c : Thread nD τ) ((Pipeline.ucRefs τ sig) \ Pipeline.arrRefs (τ := τ) spec1) (V2 m (outs m) c) ∗ emp)
    ∗ ∃ W, owes (c : Thread nD τ) (owed0 c) W) ⊢ _
  rw [StableHlo.held_sub_split (c : Thread nD τ) sub1 (V3 m (outs m) c),
    StableHlo.held_congr (c : Thread nD τ) (S := (Pipeline.ucRefs τ sig) \ Pipeline.arrRefs (τ := τ) spec1) (rest1 m c)]
  iintro ⟨Ha, Hp, ⟨Hr, -⟩, HO⟩
  isplitl [Ha Hr]; · isplitl [Ha] <;> iassumption
  isplitl [Hp]; · iexact Hp
  iexact HO
/-! ## The launch -/

/-- No semaphore of the TensorCore outlives a call. -/
theorem all_scoped : ∀ sm : SemLoc sig, sm.isScoped .tc = true := by decide

/-- What stands beside the buffers at each of the three boundaries. -/
abbrev boundary (_ : Fin 3) (c : Dev nD) : sProp 𝕄 := beside c

set_option backward.isDefEq.respectTransparency.types false in
/-- The whole run, for any float instance: from any memory with zero counters the program terminates, nothing faulting; the
    arguments end as launched, the result is `loss`, every counter is at zero. -/
theorem run (m : Mem F) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v97) = loss m c)
      ∧ r.2.sem = fun _ => 0) := by
  refine Pipeline.θ_run_regions_kit_dev_sems (pcfgs (F := F)) adm (pdats m) () cellOf_inj emb₁ defs₀ variants levels levelOf m ρ main
    (segs m variants levels levelOf boundary () (pdats m) (region0 m) (region1 m))
    (fun c Q => by
      rewrite [main_chain c, Seg.run_eq_chain,
        show (segs m variants levels levelOf boundary () (pdats m) (region0 m) (region1 m) c).map Seg.prog = [
          StableHlo.seq hostOps0,
          Prog.lift (.customCall (Pipeline.entry 0) ()),
          Prog.lift (.customCall (Pipeline.entry 1) ()) ] from rfl]
      dsimp (config := { failIfUnchanged := false }) only
      exact .rfl)
    (fun c => by simp only [segs, Seg.pipes_host, Seg.pipes_region, Seg.pipes_nil]; decide)
    (O₀ := 0) (hL := fun g hg => if_neg hg) (G := fun _ => iprop(emp))
    (u₀ := initOf (Pipeline.cells cfgs cellOf_inj) (Pipeline.launchToks cfgs cellOf_inj))
    (hu₀ := ?_)
    (T₀ := fun c => iprop(StableHlo.held (c : Thread nD τ) (Pipeline.ucRefs τ sig) (V0 m c) ∗ beside c))
    (Tₙ := fun c => StableHlo.held (c : Thread nD τ) (Pipeline.ucRefs τ sig) (V3 m (outs m) c))
    (hch := fun c => ⟨.rfl, pre0 m c, (post0 m c).trans (pre1 m c), (post1 m c).trans (sep_mono .rfl ?_)⟩)
    (hinit := ?_)
    (QY := fun c s => s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_v97) = loss m c)
    (hfin := fun c s' => ?_) (hQ := fun _ h hz => ⟨h, funext fun g => hz g (.inr (all_scoped g.2))⟩)
  · iintro Hu
    imodintro
    isplitl [Hu]
    · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · iintro ⟨-, HO⟩
    iexact HO
  · refine Pipeline.initEach levels levelOf fun c => ?_
    rw [show unscopedBufs c (fun b => m ((c.tc : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · unfold StableHlo.held
    iintro ⟨Hh, HSI⟩
    ihave Hr := (pointsTo_read_all (Pipeline.ucRefs τ sig) (fun b => ((c : Thread nD τ).1, b)) (V3 m (outs m) c) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (V3_main_arg0 m (outs m) c),
        (h (Proc.devRef .tc main_arg1) (Finset.mem_filter.mpr ⟨StableHlo.devRef_mem_tcRefs main_arg1, by decide⟩)).trans (V3_main_arg1 m (outs m) c),
        (h (Proc.devRef .tc main_v97) (Finset.mem_filter.mpr ⟨StableHlo.devRef_mem_tcRefs main_v97, by decide⟩)).trans (V3_loss m c)⟩
    · iexact HSI

/-- The frame: termination, arguments unchanged, counters at zero. -/
theorem frame (m : Mem F) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1 c).1, (h.1 c).2.1⟩, h.2⟩) (run m ρ)

end Cert.KernelIdeal.Run

end
-- ==== Proof.KernelIdeal.BinsStep.lean ====
/- What one grid step of the second pallas_call computes: the sixteen one-hot products of its image rows, added to the
   accumulator, and the loss read off the accumulator at the last step. -/
module

public import proofs.«01_k».proof.Proof.KernelIdeal.Bins
public import Idealize.ShloMosaic.Lib.Pipeline.Value
public import Idealize.ShloMosaic.Lib.ValueIdx
public import Idealize.ShloMosaic.Lib.MatmulPlain
public import Idealize.ShloMosaic.PureOps.Ideal.Laws

@[expose] public section

set_option maxRecDepth 16384

noncomputable section

namespace Cert.KernelIdeal.Bins

open Cert.KernelIdeal Cert.KernelIdeal.Gen
open Idealize.ShloMosaic Idealize.ShloMosaic.TcCoe Idealize.ShloMosaic.Tactic
open Idealize.SL.Sem

section Step
variable {F : FTy → Type} [FloatOps F] [Named F]

/-- Two zero offsets. -/
theorem zeros2 : (![0, 0] : Fin 2 → Nat) = fun _ => 0 := funext fun a => by fin_cases a <;> rfl
/-- Four zero offsets. -/
theorem zeros4 : (![0, 0, 0, 0] : Fin 4 → Nat) = fun _ => 0 := funext fun a => by fin_cases a <;> rfl

/-- Row `r` lies inside a sixteen-row table block. -/
theorem rowIn (r : Fin 16) : ∀ a, (![0, r.val, 0, 0] : Fin 4 → ℕ) a + S1x1x8x320.size a ≤ S1x16x8x320.size a := by
  revert r; decide
/-- Row `r` lies inside a block of sixteen product rows. -/
theorem rowSlices (r : Fin 16) : S3x32x16x320.Slices ![0, 0, r.val, 0] S3x32x1x320 := by
  revert r; decide

/-- Row `r` of a table block. -/
def tableRow {e : EltTy} (x : Vec F S1x16x8x320 e) (r : Fin 16) : Vec F S1x1x8x320 e :=
  View.ld x (Rect.unit (s := S1x16x8x320) ![0, r.val, 0, 0] S1x1x8x320.size (rowIn r))

/-- Row `r` of the products, the three products of the thirty-two images stacked. -/
def prodRow (x2 : Vec F S3x32x16x320 .bf16) (r : Fin 16) : FVec F S96x320 .bf16 :=
  shapeCast S96x320 (shapeCast S3x32x320 (extractStridedSlice S3x32x1x320 ![0, 0, r.val, 0] x2 (rowSlices r))
    shapeCasts_S3x32x1x320_S3x32x320) shapeCasts_S3x32x320_S96x320

/-- The weighted one-hot rows of image row `r` times that row's products. -/
def rowTerm (x0 : Vec F S1x16x8x320 .i32) (x1 : Vec F S1x16x8x320 .f32) (x2 : Vec F S3x32x16x320 .bf16) (r : Fin 16) :
    FVec F S264x96 .f32 :=
  matmul dot_S264x320_S96x320_S264x96_1_1_0_0_n_n none (k1_pay6 (tableRow x0 r) (tableRow x1 r)) (prodRow x2 r)
    (constant S264x96 .f32 0x00000000#32)

/-- The sum of the sixteen rows' terms, in the order the kernel adds them. -/
def stepSum (x0 : Vec F S1x16x8x320 .i32) (x1 : Vec F S1x16x8x320 .f32) (x2 : Vec F S3x32x16x320 .bf16) : FVec F S264x96 .f32 :=
  addf (addf (addf (addf (addf (addf (addf (addf (addf (addf (addf (addf (addf (addf (addf
    (rowTerm x0 x1 x2 0) (rowTerm x0 x1 x2 1)) (rowTerm x0 x1 x2 2)) (rowTerm x0 x1 x2 3)) (rowTerm x0 x1 x2 4))
    (rowTerm x0 x1 x2 5)) (rowTerm x0 x1 x2 6)) (rowTerm x0 x1 x2 7)) (rowTerm x0 x1 x2 8)) (rowTerm x0 x1 x2 9))
    (rowTerm x0 x1 x2 10)) (rowTerm x0 x1 x2 11)) (rowTerm x0 x1 x2 12)) (rowTerm x0 x1 x2 13)) (rowTerm x0 x1 x2 14))
    (rowTerm x0 x1 x2 15)

/-- The row numbers of the accumulator, as the kernel compares them. -/
abbrev rowNo : IVec S264x320 32 := iota .tc S264x320 32 [0] iota_S264x320_d0_w32

/-- A one-hot row block times a row of products. -/
abbrev dotT (h : FVec F S264x320 .bf16) (v : FVec F S96x320 .bf16) : FVec F S264x96 .f32 :=
  matmul dot_S264x320_S96x320_S264x96_1_1_0_0_n_n none h v (constant S264x96 .f32 0x00000000#32)

section Parts
variable (v5 : FVec F S3x32x16x320 .bf16) (acc : FVec F S264x96 .f32) (h : FVec F S264x320 .bf16) (v : FVec F S96x320 .bf16)
  (ia ib ic : Vec F S1x1x8x320 .i32) (wa wb wc : Vec F S1x1x8x320 .f32)

/-- Row 0's term. -/
theorem part_5 : k1_pay5 v5 ia wa = dotT (k1_pay6 ia wa) (prodRow (k1_pay4 v5) 0) := rfl
/-- Row 1's products. -/
theorem part_7 : k1_pay7 v5 = prodRow (k1_pay4 v5) 1 := rfl
/-- Rows 1, 2 and 3 added. -/
theorem part_8 : k1_pay8 rowNo v5 acc h v ia wa ib wb
    = addf (addf (addf acc (dotT h v)) (dotT (k1_pay6 ia wa) (prodRow v5 2))) (dotT (k1_pay6 ib wb) (prodRow v5 3)) := rfl
/-- Rows 4 and 5 added. -/
theorem part_10 : k1_pay10 rowNo v5 acc (k1_pay9 ia) wa ib wb
    = addf (addf acc (dotT (k1_pay6 ia wa) (prodRow v5 4))) (dotT (k1_pay6 ib wb) (prodRow v5 5)) := rfl
/-- Rows 6, 7 and 8 added. -/
theorem part_14 : k1_pay14 rowNo v5 acc (k1_pay11 wa) (k1_pay12 rowNo ia) (k1_pay13 (F := F)) ib wb ic wc
    = addf (addf (addf acc (dotT (k1_pay6 ia wa) (prodRow v5 6))) (dotT (k1_pay6 ib wb) (prodRow v5 7)))
      (dotT (k1_pay6 ic wc) (prodRow v5 8)) := rfl
/-- Rows 9 and 10 added. -/
theorem part_15 : k1_pay15 rowNo v5 acc ia wa ib wb
    = addf (addf acc (dotT (k1_pay6 ia wa) (prodRow v5 9))) (dotT (k1_pay6 ib wb) (prodRow v5 10)) := rfl
/-- Rows 11 and 12 added. -/
theorem part_17 : k1_pay17 rowNo v5 acc (k1_pay16 ia) wa ib wb
    = addf (addf acc (dotT (k1_pay6 ia wa) (prodRow v5 11))) (dotT (k1_pay6 ib wb) (prodRow v5 12)) := rfl
/-- Row 13's weighted one-hot rows. -/
theorem part_18 : k1_pay18 rowNo ia wa = k1_pay6 ia wa := rfl
/-- Row 13's products. -/
theorem part_19 : k1_pay19 v5 = prodRow v5 13 := rfl
/-- Rows 13, 14 and 15 added, and the whole to the accumulator. -/
theorem part_20 (xs : Vec F S264x96 .f32) : k1_pay20 rowNo v5 acc h v ia wa ib wb xs
    = addf xs (addf (addf (addf acc (dotT h v)) (dotT (k1_pay6 ia wa) (prodRow v5 14))) (dotT (k1_pay6 ib wb) (prodRow v5 15))) := rfl
end Parts

variable (c : Dev nD) (i : grid1.Coords) (arg1 : Memref sig .tc .vmem S1x16x8x320 .i32) (harg1 : arg1.IsWhole)
  (arg2 : Memref sig .tc .vmem S1x16x8x320 .f32) (harg2 : arg2.IsWhole) (arg3 : Memref sig .tc .vmem S3x32x16x320 .bf16)
  (harg3 : arg3.IsWhole) (arg4 : Memref sig .tc .vmem S1x1 .f32) (harg4 : arg4.IsWhole)
  (arg5 : Memref sig .tc .vmem S264x96 .f32) (harg5 : arg5.IsWhole)
  (x0 : Vec F S1x16x8x320 .i32) (x1 : Vec F S1x16x8x320 .f32) (x2 : Vec F S3x32x16x320 .bf16) (xs : Vec F S264x96 .f32)

/-- A step that is neither the first nor the last adds its rows to the accumulator. -/
theorem sout_B (hc0 : ¬cond1_0 i) (hc1 : ¬cond1_1 i) :
    sout1_B_0 c i arg1 harg1 arg2 harg2 arg3 harg3 arg4 harg4 arg5 harg5 hc0 hc1 x0 x1 x2 xs = addf xs (stepSum x0 x1 x2) := by
  unfold sout1_B_0
  rw [View.read_writes_eq_canon _ _ _ (scover1_B_0 c i arg1 harg1 arg2 harg2 arg3 harg3 arg4 harg4 arg5 harg5 hc0 hc1 x0 x1 x2 xs)]
  unfold kernelRun1_B
  dsimp only
  sl_unfold_words
  rw [View.canon_unit_zero zeros2]
  simp only [View.readAt_eq_ld, harg1.read_unread, harg2.read_unread, harg3.read_unread, harg5.read_unread,
    View.ld_unit_zero (S := S264x96) zeros2, View.ld_unit_zero (S := S3x32x16x320) zeros4]
  simp only [part_5, part_7, part_8, part_10, part_14, part_15, part_17, part_18, part_19, part_20, k1_pay1, shapeCast_self,
    show k1_pay4 x2 = x2 from shapeCast_self _ _]
  rfl

/-- The first step starts from zero. -/
theorem sout_A (hc0 : cond1_0 i) (hc1 : ¬cond1_1 i) :
    sout1_A_0 c i arg1 harg1 arg2 harg2 arg3 harg3 arg4 harg4 arg5 harg5 hc0 hc1 x0 x1 x2 = addf (k1_pay3 (F := F)) (stepSum x0 x1 x2) := by
  unfold sout1_A_0
  rw [View.read_writes_eq_canon _ _ _ (scover1_A_0 c i arg1 harg1 arg2 harg2 arg3 harg3 arg4 harg4 arg5 harg5 hc0 hc1 x0 x1 x2)]
  unfold kernelRun1_A
  dsimp only
  sl_unfold_words
  rw [View.canon_cons_unit_zero (S := S264x96) zeros2]
  simp only [View.readAt_eq_ld, harg1.read_unread, harg2.read_unread, harg3.read_unread, harg5.read_unread,
    View.ld_unit_zero (S := S264x96) zeros2, View.ld_unit_zero (S := S3x32x16x320) zeros4, View.readCov_unit_zero (S := S264x96) _ zeros2]
  simp only [part_5, part_7, part_8, part_10, part_14, part_15, part_17, part_18, part_19, part_20, k1_pay1, shapeCast_self,
    show k1_pay4 x2 = x2 from shapeCast_self _ _]
  rfl

/-- The last step also adds its rows to the accumulator. -/
theorem sout_C (hc0 : ¬cond1_0 i) (hc1 : cond1_1 i) :
    sout1_C_0 c i arg1 harg1 arg2 harg2 arg3 harg3 arg4 harg4 arg5 harg5 hc0 hc1 x0 x1 x2 xs = addf xs (stepSum x0 x1 x2) := by
  unfold sout1_C_0
  rw [View.read_writes_eq_canon _ _ _ (scover1_C_0 c i arg1 harg1 arg2 harg2 arg3 harg3 arg4 harg4 arg5 harg5 hc0 hc1 x0 x1 x2 xs)]
  unfold kernelRun1_C
  dsimp only
  sl_unfold_words
  rw [View.canon_unit_zero zeros2]
  simp only [View.readAt_eq_ld, harg1.read_unread, harg2.read_unread, harg3.read_unread, harg5.read_unread,
    View.ld_unit_zero (S := S264x96) zeros2, View.ld_unit_zero (S := S3x32x16x320) zeros4]
  simp only [part_5, part_7, part_8, part_10, part_14, part_15, part_17, part_18, part_19, part_20, k1_pay1, shapeCast_self,
    show k1_pay4 x2 = x2 from shapeCast_self _ _]
  rfl

/-- The last step reads the loss off the accumulator it has just completed. -/
theorem out_C (hc0 : ¬cond1_0 i) (hc1 : cond1_1 i) :
    out1_C_3 c i arg1 harg1 arg2 harg2 arg3 harg3 arg4 harg4 arg5 harg5 hc0 hc1 x0 x1 x2 xs = k1_pay2 (addf xs (stepSum x0 x1 x2)) := by
  unfold out1_C_3
  rw [View.read_writes_eq_canon _ _ _ (cover1_C_3 c i arg1 harg1 arg2 harg2 arg3 harg3 arg4 harg4 arg5 harg5 hc0 hc1 x0 x1 x2 xs)]
  unfold kernelRun1_C
  dsimp only
  sl_unfold_words
  rw [View.canon_unit_zero zeros2]
  simp only [View.readAt_eq_ld, harg1.read_unread, harg2.read_unread, harg3.read_unread, harg5.read_unread,
    View.ld_unit_zero (S := S264x96) zeros2, View.ld_unit_zero (S := S3x32x16x320) zeros4, View.readCov_unit_zero (S := S264x96) _ zeros2]
  simp only [part_5, part_7, part_8, part_10, part_14, part_15, part_17, part_18, part_19, part_20, k1_pay1, shapeCast_self,
    show k1_pay4 x2 = x2 from shapeCast_self _ _]
  rfl

end Step
end Cert.KernelIdeal.Bins
-- ==== Proof.KernelIdeal.BinsRead.lean ====
/- The second pallas_call's step read entry by entry at exact arithmetic. -/
module

public import proofs.«01_k».proof.Proof.KernelIdeal.BinsStep
public import Idealize.ShloMosaic.Lib.Pipeline.ValueKit.Tiles

@[expose] public section

set_option maxRecDepth 16384

noncomputable section

namespace Cert.KernelIdeal.Bins

open Cert.KernelIdeal Cert.KernelIdeal.Gen
open Idealize.ShloMosaic Idealize.ShloMosaic.TcCoe
open Idealize.SL.Sem
open Idealize.ShloMosaic.ValueIdx

/-- Column `32 j + b` of the accumulator: product `j` of image `b`. -/
abbrev colOf (j : Fin 3) (b : Fin 32) : Fin 96 := ⟨32 * j.val + b.val, by omega⟩

/-- Eight table rows repeated thirty-three times. -/
theorem tile_apply {α : Type} (v : S8x320.Idx → α) (h) (a : Fin 264) (l : Fin 320) :
    concatenate S264x320 0 (List.replicate 33 (⟨S8x320, v⟩ : (s : Shape) × (s.Idx → α))) h (ix2 a l)
      = v (ix2 ⟨a.val % 8, Nat.mod_lt _ (by decide)⟩ l) :=
  concatenate_replicate_apply (t := S264x320) (s₁ := S8x320) 0 33 v h rfl (ix2 a l) _ rfl fun b hb => by
    match b with
    | ⟨0, _⟩ => exact absurd rfl hb
    | ⟨1, _⟩ => rfl

/-- A table row read at an entry. -/
theorem tableRow_apply {F : FTy → Type} [FloatOps F] {e : EltTy} (x : Vec F S1x16x8x320 e) (r : Fin 16) (h) (a : Fin 8) (l : Fin 320) :
    shapeCast S8x320 (tableRow x r) h (ix2 a l) = x (ix4 0 r a l) := by
  rw [shapeCast_apply (tableRow x r) h (ix2 a l) (ix4 0 0 a l : S1x1x8x320.Idx) (by
    simp [Shape.rowMajor_val_four, Shape.rowMajor_val_two])]
  unfold tableRow
  exact View.ld_unit_apply_of x _ _ _ _ (ix4 0 r a l) fun d => by
    match d with
    | ⟨0, _⟩ => rfl
    | ⟨1, _⟩ => rfl
    | ⟨2, _⟩ => exact (Nat.zero_add _).symm
    | ⟨3, _⟩ => exact (Nat.zero_add _).symm

/-- A row of the products read at an entry. -/
theorem prodRow_apply {F : FTy → Type} [FloatOps F] (x : Vec F S3x32x16x320 .bf16) (r : Fin 16) (j : Fin 3) (b : Fin 32) (l : Fin 320) :
    prodRow x r (ix2 (colOf j b) l) = x (ix4 j b r l) := by
  unfold prodRow
  rw [shapeCast_apply _ shapeCasts_S3x32x320_S96x320 (ix2 (colOf j b) l) (ix3 j b l : S3x32x320.Idx) (by
    simp only [Shape.rowMajor_val_three, Shape.rowMajor_val_two]
    show (j.val * 32 + b.val) * 320 + l.val = (32 * j.val + b.val) * 320 + l.val
    omega)]
  rw [shapeCast_apply _ shapeCasts_S3x32x1x320_S3x32x320 (ix3 j b l) (ix4 j b 0 l : S3x32x1x320.Idx) (by
    simp [Shape.rowMajor_val_four, Shape.rowMajor_val_three])]
  exact extractStridedSlice_apply _ x _ _ (ix4 j b r l) fun d => by
    match d with
    | ⟨0, _⟩ => exact (Nat.zero_add _).symm
    | ⟨1, _⟩ => exact (Nat.zero_add _).symm
    | ⟨2, _⟩ => rfl
    | ⟨3, _⟩ => exact (Nat.zero_add _).symm

/-- The equality comparison of two words, as a bit. -/
theorem eqBit_iff (a b : BitVec 32) : Scalar.cmpi .eq a b = 1#1 ↔ a = b := by
  show BitVec.ofBool (a == b) = 1#1 ↔ a = b
  rcases h : (a == b) with _ | _
  · exact ⟨fun e => absurd e (by decide), fun e => by simp [e] at h⟩
  · exact ⟨fun _ => by simpa using h, fun _ => rfl⟩

/-- Thirty-three pieces of eight rows make up 264 rows. -/
theorem tileFits {α : Type} (v : S8x320.Idx → α) :
    Shape.Concatenates ((List.replicate 33 (⟨S8x320, v⟩ : (s : Shape) × (s.Idx → α))).map (·.1)) S264x320 0 :=
  (by decide : Shape.Concatenates (List.replicate 33 S8x320) S264x320 0)

/-- The weighted one-hot rows read at an entry: the weight where the table names the row, zero elsewhere. -/
theorem oneHot_apply (x0 : Vec Ideal S1x16x8x320 .i32) (x1 : Vec Ideal S1x16x8x320 .f32) (r : Fin 16) (a : Fin 264) (l : Fin 320) :
    k1_pay6 (F := Ideal) (tableRow x0 r) (tableRow x1 r) (ix2 a l)
      = if x0 (ix4 0 r ⟨a.val % 8, Nat.mod_lt _ (by decide)⟩ l) = BitVec.ofNat 32 a.val
        then x1 (ix4 0 r ⟨a.val % 8, Nat.mod_lt _ (by decide)⟩ l) else (0 : EReal) := by
  have h0 := (tile_apply (shapeCast S8x320 (tableRow (F := Ideal) x0 r) shapeCasts_S1x1x8x320_S8x320) (tileFits _) a l).trans (tableRow_apply (F := Ideal) x0 r _ _ l)
  have h1 := (tile_apply (shapeCast S8x320 (tableRow (F := Ideal) x1 r) shapeCasts_S1x1x8x320_S8x320) (tileFits _) a l).trans (tableRow_apply (F := Ideal) x1 r _ _ l)
  have hi : rowNo (ix2 a l) = BitVec.ofNat 32 a.val := iota_single_apply _ _ _ _ _ _
  rw [← h0, ← h1, ← hi, ← Ideal.ofBits_zero_f32]
  refine Eq.trans (b := if Scalar.cmpi .eq _ _ = 1#1 then _ else _) rfl ?_
  refine if_congr ?_ rfl rfl
  exact eqBit_iff _ _

/-- One image row's term read at an entry. -/
theorem rowTerm_apply (x0 : Vec Ideal S1x16x8x320 .i32) (x1 : Vec Ideal S1x16x8x320 .f32) (x2 : Vec Ideal S3x32x16x320 .bf16)
    (r : Fin 16) (a : Fin 264) (j : Fin 3) (b : Fin 32) :
    rowTerm (F := Ideal) x0 x1 x2 r (ix2 a (colOf j b))
      = ∑ l : Fin 320, (if x0 (ix4 0 r ⟨a.val % 8, Nat.mod_lt _ (by decide)⟩ l) = BitVec.ofNat 32 a.val
        then x1 (ix4 0 r ⟨a.val % 8, Nat.mod_lt _ (by decide)⟩ l) else (0 : EReal)) * x2 (ix4 j b r l) := by
  refine (Ideal.matmul_transposedRhs_apply none (k1_pay6 (F := Ideal) (tableRow x0 r) (tableRow x1 r)) (prodRow (F := Ideal) x2 r)
    (constant S264x96 .f32 0x00000000#32) a (colOf j b)).trans ?_
  show Ideal.ofBits .f32 0x00000000#32 + _ = _
  rw [Ideal.ofBits_zero_f32, zero_add]
  exact Finset.sum_congr rfl fun l _ => congrArg₂ (· * ·) (oneHot_apply x0 x1 r a l) (prodRow_apply (F := Ideal) x2 r j b l)

/-- One grid step's sum read at an entry. -/
theorem stepSum_apply (x0 : Vec Ideal S1x16x8x320 .i32) (x1 : Vec Ideal S1x16x8x320 .f32) (x2 : Vec Ideal S3x32x16x320 .bf16)
    (a : Fin 264) (j : Fin 3) (b : Fin 32) :
    stepSum (F := Ideal) x0 x1 x2 (ix2 a (colOf j b))
      = ∑ r : Fin 16, ∑ l : Fin 320, (if x0 (ix4 0 r ⟨a.val % 8, Nat.mod_lt _ (by decide)⟩ l) = BitVec.ofNat 32 a.val
        then x1 (ix4 0 r ⟨a.val % 8, Nat.mod_lt _ (by decide)⟩ l) else (0 : EReal)) * x2 (ix4 j b r l) := by
  rw [← Finset.sum_congr rfl fun r _ => rowTerm_apply x0 x1 x2 r a j b]
  simp only [Fin.sum_univ_castSucc, Fin.sum_univ_zero, zero_add]
  rfl

end Cert.KernelIdeal.Bins
-- ==== Proof.Spec.lean ====
/- The mathematics the two programs share, over the reals: the two-dimensional discrete Fourier transform, the ring a frequency
   belongs to, the sums over a ring, and the loss term of a ring. The transform of a real image is symmetric under negating both
   frequencies, so a sum over a ring is a weighted sum over its half plane. -/
module

public import Idealize.ShloMosaic.PureOps.Ideal
public import Mathlib.Analysis.SpecialFunctions.Trigonometric.Basic
public import Mathlib.Algebra.BigOperators.Fin
public import Mathlib.Tactic.Ring
public import Mathlib.Tactic.Linarith
public import Mathlib.Tactic.FinCases
public import Mathlib.Algebra.BigOperators.Intervals

@[expose] public section

noncomputable section

namespace Cert.Spec

open Idealize.ShloMosaic
open scoped BigOperators

/-- One ring of one image: (1 - n / (sqrt (y z) + eps)) squared, `n` the size of the correlation sum and `y`, `z` the two
    power sums. -/
def ringTerm (n y z : EReal) : EReal :=
  (Ideal.ofBits .f32 0x3F800000#32 - Ideal.div n (Ideal.sqrt (y * z) + Ideal.ofBits .f32 0x322BCC77#32))
    * (Ideal.ofBits .f32 0x3F800000#32 - Ideal.div n (Ideal.sqrt (y * z) + Ideal.ofBits .f32 0x322BCC77#32))

/-! ## The transform -/

/-- The cosine of a table. -/
def C (k h : ℕ) : ℝ := Real.cos (2 * Real.pi * ((k * h : ℕ) : ℝ) / 512)
/-- The sine of a table. -/
def S (k h : ℕ) : ℝ := Real.sin (2 * Real.pi * ((k * h : ℕ) : ℝ) / 512)

/-- The angle of a number and of its remainder modulo 512 differ by whole turns. -/
theorem angle_mod (n : ℕ) : 2 * Real.pi * (n : ℝ) / 512 = 2 * Real.pi * ((n % 512 : ℕ) : ℝ) / 512 + ((n / 512 : ℕ) : ℝ) * (2 * Real.pi) := by
  have h : (n : ℝ) = ((n % 512 : ℕ) : ℝ) + 512 * ((n / 512 : ℕ) : ℝ) := by exact_mod_cast (Nat.mod_add_div n 512).symm
  generalize ((n % 512 : ℕ) : ℝ) = r at *
  generalize ((n / 512 : ℕ) : ℝ) = q at *
  rw [h]; ring

/-- Reducing the product of the two numbers modulo 512 changes no cosine, -/
theorem C_mod (k h : ℕ) : Real.cos (2 * Real.pi * ((k * h % 512 : ℕ) : ℝ) / 512) = C k h := by
  rw [C, angle_mod (k * h), Real.cos_add_nat_mul_two_pi]
/-- and no sine. -/
theorem S_mod (k h : ℕ) : Real.sin (2 * Real.pi * ((k * h % 512 : ℕ) : ℝ) / 512) = S k h := by
  rw [S, angle_mod (k * h), Real.sin_add_nat_mul_two_pi]

/-- The negated frequency. -/
def neg (k : Fin 512) : Fin 512 := ⟨(512 - k.val) % 512, Nat.mod_lt _ (by decide)⟩

/-- Negating a frequency twice gives it back. -/
theorem neg_neg (k : Fin 512) : neg (neg k) = k := by
  apply Fin.ext; have := k.isLt; show (512 - (512 - k.val) % 512) % 512 = k.val; omega

/-- Negation as a permutation. -/
def negEquiv : Fin 512 ≃ Fin 512 := ⟨neg, neg, neg_neg, neg_neg⟩

/-- The cosine table is symmetric, -/
theorem C_comm (k h : ℕ) : C k h = C h k := by rw [C, C, Nat.mul_comm]
/-- and so is the sine table. -/
theorem S_comm (k h : ℕ) : S k h = S h k := by rw [S, S, Nat.mul_comm]

/-- Negating a frequency negates its angle up to whole turns, -/
theorem angle_neg (k : Fin 512) (h : ℕ) : ∃ n : ℕ, 2 * Real.pi * (((neg k).val * h : ℕ) : ℝ) / 512
    = (n : ℝ) * (2 * Real.pi) - 2 * Real.pi * ((k.val * h : ℕ) : ℝ) / 512 := by
  by_cases hk : k.val = 0
  · refine ⟨0, ?_⟩
    have : (neg k).val = 0 := by show (512 - k.val) % 512 = 0; omega
    rw [this, hk]; simp
  · refine ⟨h, ?_⟩
    have hv : (neg k).val = 512 - k.val := by have := k.isLt; show (512 - k.val) % 512 = _; omega
    have hle : k.val ≤ 512 := k.isLt.le
    rw [hv]; push_cast [Nat.cast_sub hle]; ring

/-- so the cosine stays, -/
theorem C_neg (k : Fin 512) (h : ℕ) : C (neg k) h = C k h := by
  obtain ⟨n, e⟩ := angle_neg k h
  rw [C, e, Real.cos_nat_mul_two_pi_sub, C]
/-- and the sine changes its sign. -/
theorem S_neg (k : Fin 512) (h : ℕ) : S (neg k) h = -S k h := by
  obtain ⟨n, e⟩ := angle_neg k h
  rw [S, e, Real.sin_nat_mul_two_pi_sub, S]

/-- The rows transformed by the cosine. -/
def xc (x : Fin 512 → Fin 512 → ℝ) (h : Fin 512) (l : ℕ) : ℝ := ∑ w : Fin 512, x h w * C w l
/-- The rows transformed by the sine. -/
def xs (x : Fin 512 → Fin 512 → ℝ) (h : Fin 512) (l : ℕ) : ℝ := ∑ w : Fin 512, x h w * S w l
/-- The transform's real part. -/
def re (x : Fin 512 → Fin 512 → ℝ) (k l : ℕ) : ℝ := (∑ h : Fin 512, C k h * xc x h l - ∑ h : Fin 512, S k h * xs x h l) / 262144
/-- The transform's imaginary part. -/
def im (x : Fin 512 → Fin 512 → ℝ) (k l : ℕ) : ℝ := -(∑ h : Fin 512, S k h * xc x h l + ∑ h : Fin 512, C k h * xs x h l) / 262144

/-- A row's cosine sum is even in the frequency, -/
theorem xc_neg (x : Fin 512 → Fin 512 → ℝ) (h : Fin 512) (l : Fin 512) : xc x h (neg l) = xc x h l := by
  simp only [xc, C_comm _ (neg l).val, C_neg, C_comm _ l.val]
/-- and its sine sum is odd. -/
theorem xs_neg (x : Fin 512 → Fin 512 → ℝ) (h : Fin 512) (l : Fin 512) : xs x h (neg l) = -xs x h l := by
  simp only [xs, S_comm _ (neg l).val, S_neg, S_comm _ l.val, mul_neg, Finset.sum_neg_distrib]

/-- The real part is even, -/
theorem re_neg (x : Fin 512 → Fin 512 → ℝ) (k l : Fin 512) : re x (neg k) (neg l) = re x k l := by
  simp only [re, C_neg, S_neg, xc_neg, xs_neg, neg_mul_neg]
/-- and the imaginary part odd, in the two frequencies together. -/
theorem im_neg (x : Fin 512 → Fin 512 → ℝ) (k l : Fin 512) : im x (neg k) (neg l) = -im x k l := by
  simp only [im, C_neg, S_neg, xc_neg, xs_neg, mul_neg, neg_mul, Finset.sum_neg_distrib]
  ring

/-- The correlation's real part and the two powers. -/
def prod (x y : Fin 512 → Fin 512 → ℝ) (j : Fin 3) (k l : ℕ) : ℝ :=
  match j with
  | 0 => re x k l * re y k l + im x k l * im y k l
  | 1 => re x k l * re x k l + im x k l * im x k l
  | 2 => re y k l * re y k l + im y k l * im y k l
/-- The correlation's imaginary part. -/
def cross (x y : Fin 512 → Fin 512 → ℝ) (k l : ℕ) : ℝ := im x k l * re y k l - re x k l * im y k l

/-- The three products are even, -/
theorem prod_neg (x y : Fin 512 → Fin 512 → ℝ) (j : Fin 3) (k l : Fin 512) : prod x y j (neg k) (neg l) = prod x y j k l := by
  fin_cases j <;> simp only [prod, re_neg, im_neg, neg_mul_neg]
/-- and the imaginary part of the correlation is odd. -/
theorem cross_neg (x y : Fin 512 → Fin 512 → ℝ) (k l : Fin 512) : cross x y (neg k) (neg l) = -cross x y k l := by
  simp only [cross, re_neg, im_neg]; ring

/-! ## The rings -/

/-- The signed frequency of a position. -/
def freq (k : ℕ) : ℝ := if k < 256 then (k : ℝ) else (k : ℝ) - 512

/-- The ring a pair of positions belongs to, as a 32-bit word: the radius rounded to the nearest whole number. -/
def ring (k l : ℕ) : BitVec 32 :=
  Ideal.fptosi 32 (Ideal.liftRound Ideal.roundHalfEven (Ideal.sqrt ((freq k * freq k + freq l * freq l : ℝ) : EReal)))

/-- A negated frequency has the same square. -/
theorem freq_neg (k : Fin 512) : freq (neg k) * freq (neg k) = freq k * freq k := by
  have hk := k.isLt
  have hv : (neg k).val = (512 - k.val) % 512 := rfl
  by_cases h0 : k.val = 0
  · have : (neg k).val = k.val := by omega
    rw [this]
  · have hv' : (neg k).val = 512 - k.val := by omega
    have hc : (((neg k).val : ℕ) : ℝ) = 512 - (k.val : ℝ) := by rw [hv', Nat.cast_sub hk.le]; norm_num
    rcases Nat.lt_trichotomy k.val 256 with h | h | h
    · rw [freq, freq, if_neg (by omega), if_pos h, hc]; ring
    · have : (neg k).val = k.val := by omega
      rw [this]
    · rw [freq, freq, if_pos (by omega), if_neg (by omega), hc]; ring

/-- Negating both frequencies keeps the ring. -/
theorem ring_neg (k l : Fin 512) : ring (neg k) (neg l) = ring k l := by
  simp only [ring, freq_neg]

/-- The sum of a quantity over ring `r`. -/
def ringSum (r : ℕ) (P : ℕ → ℕ → ℝ) : ℝ := ∑ k : Fin 512, ∑ l : Fin 512, if ring k l = BitVec.ofNat 32 r then P k l else 0

/-- The weight of a column of the half plane: one for the two columns that are their own negatives, two for the others. -/
def weight (l : ℕ) : ℝ := if l = 0 ∨ l = 256 then 1 else if l < 256 then 2 else 0

/-- The weighted half-plane sum of a quantity over ring `r`, over the 320 columns the kernel keeps. -/
def halfSum (r : ℕ) (P : ℕ → ℕ → ℝ) : ℝ :=
  ∑ k : Fin 512, ∑ l : Fin 320, (if l.val < 257 ∧ ring k l = BitVec.ofNat 32 r then weight l else 0) * P k l

/-- A sum over 512 columns of a symmetric quantity, from 320 weighted columns. -/
theorem half_columns (f : ℕ → ℝ) (hf : ∀ l : Fin 512, f (neg l) = f l) :
    ∑ l : Fin 320, (if l.val < 257 then weight l else 0) * f l = ∑ l : Fin 512, f l := by
  have hs : ∀ i, i < 255 → f (511 - i) = f (i + 1) := fun i hi => by
    have e := hf ⟨i + 1, by omega⟩
    rwa [show (neg ⟨i + 1, by omega⟩).val = 511 - i by show (512 - (i + 1)) % 512 = _; omega] at e
  have h512 : ∑ l : Fin 512, f l = f 0 + (∑ i ∈ Finset.range 255, f (i + 1)) + f 256 + ∑ i ∈ Finset.range 255, f (i + 1) := by
    rw [Fin.sum_univ_eq_sum_range f 512, show (512 : ℕ) = 257 + 255 by rfl, Finset.sum_range_add, Finset.sum_range_succ,
      show (256 : ℕ) = 255 + 1 by rfl, Finset.sum_range_succ']
    have : ∑ i ∈ Finset.range 255, f (255 + 1 + 1 + i) = ∑ i ∈ Finset.range 255, f (i + 1) := by
      rw [← Finset.sum_range_reflect]
      refine Finset.sum_congr rfl fun i hi => ?_
      have hi' := Finset.mem_range.mp hi
      rw [← hs i hi']; congr 1; omega
    rw [← this]; ring_nf
  have h320 : ∑ l : Fin 320, (if l.val < 257 then weight l else 0) * f l
      = f 0 + (∑ i ∈ Finset.range 255, 2 * f (i + 1)) + f 256 := by
    rw [Fin.sum_univ_eq_sum_range (fun l => (if l < 257 then weight l else 0) * f l) 320, show (320 : ℕ) = 257 + 63 by rfl,
      Finset.sum_range_add, Finset.sum_range_succ, show (256 : ℕ) = 255 + 1 by rfl, Finset.sum_range_succ',
      Finset.sum_eq_zero (s := Finset.range 63) (fun i _ => by rw [if_neg (by omega), zero_mul]),
      Finset.sum_congr (s₁ := Finset.range 255) rfl (g := fun i => 2 * f (i + 1)) (fun i hi => by
        have hi' := Finset.mem_range.mp hi
        rw [if_pos (by omega), weight, if_neg (by omega), if_pos (by omega)])]
    simp only [weight]; norm_num; ring
  rw [h512, h320, ← Finset.mul_sum]; ring

/-- A sum over a ring of an even quantity is its weighted half-plane sum. -/
theorem halfSum_eq (r : ℕ) (P : ℕ → ℕ → ℝ) (hP : ∀ k l : Fin 512, P (neg k) (neg l) = P k l) : halfSum r P = ringSum r P := by
  have h := half_columns (fun l => ∑ k : Fin 512, if ring k l = BitVec.ofNat 32 r then P k l else 0) (fun l => by
    rw [← Equiv.sum_comp negEquiv]
    refine Finset.sum_congr rfl fun k _ => ?_
    show (if ring (neg k) (neg l) = _ then P (neg k) (neg l) else 0) = _
    rw [ring_neg, hP])
  unfold halfSum ringSum
  rw [Finset.sum_comm, Finset.sum_comm (s := (Finset.univ : Finset (Fin 512))), ← h]
  refine Finset.sum_congr rfl fun l _ => ?_
  rw [Finset.mul_sum]
  refine Finset.sum_congr rfl fun k _ => ?_
  by_cases h1 : l.val < 257 <;> by_cases h2 : ring k l = BitVec.ofNat 32 r <;> simp [h1, h2]

/-- A sum over a ring of an odd quantity is zero. -/
theorem ringSum_odd (r : ℕ) (P : ℕ → ℕ → ℝ) (hP : ∀ k l : Fin 512, P (neg k) (neg l) = -P k l) : ringSum r P = 0 := by
  have h : ringSum r P = -ringSum r P := by
    conv_lhs => unfold ringSum
    rw [← Equiv.sum_comp negEquiv]
    unfold ringSum
    rw [← Finset.sum_neg_distrib]
    refine Finset.sum_congr rfl fun k _ => ?_
    rw [← Equiv.sum_comp negEquiv, ← Finset.sum_neg_distrib]
    refine Finset.sum_congr rfl fun l _ => ?_
    show (if ring (neg k) (neg l) = _ then P (neg k) (neg l) else 0) = _
    rw [ring_neg, hP]
    split_ifs <;> simp
  linarith

end Cert.Spec
-- ==== Proof.KernelIdeal.BinsValue.lean ====
/- The second pallas_call's result at exact arithmetic: the accumulator after each grid step is a plain sum over the image rows
   seen so far, and the loss is read off it after the last step. -/
module

public import proofs.«01_k».proof.Proof.KernelIdeal.BinsRead
public import proofs.«01_k».proof.Proof.Spec

@[expose] public section

set_option maxRecDepth 16384

noncomputable section

namespace Cert.KernelIdeal.Bins

open Cert.KernelIdeal Cert.KernelIdeal.Gen
open Idealize.ShloMosaic Idealize.ShloMosaic.TcCoe
open Idealize.SL.Sem
open Idealize.ShloMosaic.ValueIdx
open Idealize.ShloMosaic.Pipeline (Dat)

/-! ## The blocks -/

/-- Step `t` reads table block `t`, and the sixteen product rows from row `16 t`. -/
theorem indices1 : ∀ t : Fin grid1.N,
    (win1_0.index t 0 = t.val ∧ win1_0.index t 1 = 0 ∧ win1_0.index t 2 = 0 ∧ win1_0.index t 3 = 0)
    ∧ (win1_1.index t 0 = t.val ∧ win1_1.index t 1 = 0 ∧ win1_1.index t 2 = 0 ∧ win1_1.index t 3 = 0)
    ∧ (win1_2.index t 0 = 0 ∧ win1_2.index t 1 = 0 ∧ win1_2.index t 2 = t.val ∧ win1_2.index t 3 = 0) := by
  decide +kernel

/-- The grid's points as numbers below 32. -/
abbrev pt (t : Fin cfg1.N) : Fin 32 := ⟨t.val, Nat.lt_of_lt_of_eq t.isLt N_1⟩

section Blocks
variable {F : FTy → Type} [FloatOps F] [Named F]
variable (V : (c : Dev nD) → (b : Ref sig .tc) → Buf (Elt F) ((c : Thread nD τ).loc b))

/-- The bin table's block. -/
theorem blk_0 (c : Dev nD) (t : Fin cfg1.N) (r : Fin 16) (s : Fin 8) (l : Fin 320) :
    (iblk V c 0 t : Vec F S1x16x8x320 .i32) (ix4 0 r s l) = (V c main_v83 : Vec F S32x16x8x320 .i32) (ix4 (pt t) r s l) := by
  obtain ⟨⟨h0, h1, h2, h3⟩, -, -⟩ := indices1 t
  refine congrArg (V c main_v83 : Vec F S32x16x8x320 .i32) (funext fun d => Fin.ext ?_)
  refine (Pipeline.Window.rect_emb_val win1_0 t (ix4 0 r s l) d).trans ?_
  match d with
  | ⟨0, _⟩ => show win1_0.index t 0 * 1 + 0 = t.val; rw [h0]; omega
  | ⟨1, _⟩ => show win1_0.index t 1 * 16 + r.val = r.val; rw [h1]; omega
  | ⟨2, _⟩ => show win1_0.index t 2 * 8 + s.val = s.val; rw [h2]; omega
  | ⟨3, _⟩ => show win1_0.index t 3 * 320 + l.val = l.val; rw [h3]; omega

/-- The weight table's block. -/
theorem blk_1 (c : Dev nD) (t : Fin cfg1.N) (r : Fin 16) (s : Fin 8) (l : Fin 320) :
    (iblk V c 1 t : Vec F S1x16x8x320 .f32) (ix4 0 r s l) = (V c main_v95 : Vec F S32x16x8x320 .f32) (ix4 (pt t) r s l) := by
  obtain ⟨-, ⟨h0, h1, h2, h3⟩, -⟩ := indices1 t
  refine congrArg (V c main_v95 : Vec F S32x16x8x320 .f32) (funext fun d => Fin.ext ?_)
  refine (Pipeline.Window.rect_emb_val win1_1 t (ix4 0 r s l) d).trans ?_
  match d with
  | ⟨0, _⟩ => show win1_1.index t 0 * 1 + 0 = t.val; rw [h0]; omega
  | ⟨1, _⟩ => show win1_1.index t 1 * 16 + r.val = r.val; rw [h1]; omega
  | ⟨2, _⟩ => show win1_1.index t 2 * 8 + s.val = s.val; rw [h2]; omega
  | ⟨3, _⟩ => show win1_1.index t 3 * 320 + l.val = l.val; rw [h3]; omega

/-- Row `16 t + r` of the transforms. -/
abbrev rowOf (t : Fin 32) (r : Fin 16) : Fin 512 := ⟨16 * t.val + r.val, by omega⟩

/-- The products' block. -/
theorem blk_2 (c : Dev nD) (t : Fin cfg1.N) (j : Fin 3) (b : Fin 32) (r : Fin 16) (l : Fin 320) :
    (iblk V c 2 t : Vec F S3x32x16x320 .bf16) (ix4 j b r l)
      = (V c main_v96 : Vec F S3x32x512x320 .bf16) (ix4 j b (rowOf (pt t) r) l) := by
  obtain ⟨-, -, ⟨h0, h1, h2, h3⟩⟩ := indices1 t
  refine congrArg (V c main_v96 : Vec F S3x32x512x320 .bf16) (funext fun d => Fin.ext ?_)
  refine (Pipeline.Window.rect_emb_val win1_2 t (ix4 j b r l) d).trans ?_
  match d with
  | ⟨0, _⟩ => show win1_2.index t 0 * 3 + j.val = j.val; rw [h0]; omega
  | ⟨1, _⟩ => show win1_2.index t 1 * 32 + b.val = b.val; rw [h1]; omega
  | ⟨2, _⟩ => show win1_2.index t 2 * 16 + r.val = 16 * t.val + r.val; rw [h2]; omega
  | ⟨3, _⟩ => show win1_2.index t 3 * 320 + l.val = l.val; rw [h3]; omega

/-! ## The steps -/

/-- The first step's accumulator. -/
theorem acc_zero (c : Dev nD) (h : 0 < cfg1.N) : (outsAt1 V c 0 h).2
    = addf (k1_pay3 (F := F)) (stepSum (iblk V c 0 ⟨0, h⟩) (iblk V c 1 ⟨0, h⟩) (iblk V c 2 ⟨0, h⟩)) := by
  refine (congrArg Prod.snd (outsAt1_A V c ⟨0, h⟩ (Nat.zero_mod _) (by show ¬0 % 32 = 31; decide))).trans ?_
  dsimp only
  rw [sout_A]

/-- Every later step's accumulator. -/
theorem acc_succ (c : Dev nD) (n : ℕ) (h : n + 1 < cfg1.N) : (outsAt1 V c (n + 1) h).2
    = addf (outsAt1 V c n (Nat.lt_of_succ_lt h)).2
      (stepSum (iblk V c 0 ⟨n + 1, h⟩) (iblk V c 1 ⟨n + 1, h⟩) (iblk V c 2 ⟨n + 1, h⟩)) := by
  have hN : n + 1 < 32 := Nat.lt_of_lt_of_eq h N_1
  have h0 : ¬(⟨n + 1, h⟩ : Fin cfg1.N).val % 32 = 0 := by dsimp only; omega
  by_cases h1 : (⟨n + 1, h⟩ : Fin cfg1.N).val % 32 = 31
  · exact (congrArg Prod.snd (outsAt1_C V c ⟨n + 1, h⟩ h0 h1)).trans (by dsimp only; rw [sout_C]; rfl)
  · exact (congrArg Prod.snd (outsAt1_B V c ⟨n + 1, h⟩ h0 h1)).trans (by dsimp only; rw [sout_B]; rfl)

/-- A pair whose first half is the loss of its second. -/
theorem fst_of_pair {z : Vec F S1x1 .f32 × Vec F S264x96 .f32} {o : Vec F S1x1 .f32} {s : Vec F S264x96 .f32}
    (hz : z = (o, s)) (ho : o = k1_pay2 s) : z.1 = k1_pay2 z.2 := by
  subst hz; exact ho

/-- The output after the last step is the loss of that step's accumulator. -/
theorem out_last (c : Dev nD) (h : 31 < cfg1.N) : (outsAt1 V c 31 h).1 = k1_pay2 (outsAt1 V c 31 h).2 :=
  fst_of_pair (outsAt1_C V c ⟨31, h⟩ (by show ¬31 % 32 = 0; decide) (by show 31 % 32 = 31; decide)) (by rw [sout_C, out_C])

/-- The last grid point. -/
abbrev lastPt : Fin cfg1.N := ⟨31, by rw [show cfg1.N = 32 from N_1]; decide⟩

/-- The output array ends holding what the last step left. -/
theorem arr_out (c : Dev nD) : (dat V c).arrAt 3 cfg1.N = (outsAt1 V c 31 lastPt.isLt).1 :=
  (dat V c).arrAt_eq_of_cover 3 _ (fun t hf => by
    have hN : cfg1.N = 32 := N_1
    have h3 : t.val = 31 := by
      have key : ∀ t : Fin grid1.N, win1_3.flush t = true → t.val = 31 := by decide +kernel
      exact key t hf
    obtain rfl : t = lastPt := Fin.ext h3
    show (cfg1.win 3).cut (grid1.coords lastPt) ((dat V c).after 3 lastPt) = _
    rw [after1_3]
    have hz' : (fun a => win1_3.index lastPt a * main_v97.ty.shape.size a) = fun _ => 0 := funext fun a => by fin_cases a <;> decide
    exact (Memref.read_access_unit_zero (Elt F) main_v97 hz' (fun a => by rw [congrFun hz' a]; simp) (outsAt1 V c 31 lastPt.isLt).1).symm)
    fun i => ⟨lastPt, by decide +kernel, by
      show i ∈ ((View.whole main_v97).slice (win1_3.rect lastPt)).set
      rw [View.set_slice_whole, Rect.mem_set_unit]
      intro a
      match a with
      | ⟨0, _⟩ => exact ⟨Nat.zero_le _, (i 0).isLt⟩
      | ⟨1, _⟩ => exact ⟨Nat.zero_le _, (i 1).isLt⟩⟩
end Blocks

/-! ## Exact arithmetic -/

variable (V : (c : Dev nD) → (b : Ref sig .tc) → Buf (Elt Ideal) ((c : Thread nD τ).loc b))

/-- The contribution of row `r` of step `t` to an entry of the accumulator, from the bin table `I`, the weights `W` and the
    products `P`. -/
def rowPart (I : Vec Ideal S32x16x8x320 .i32) (W : Vec Ideal S32x16x8x320 .f32) (P : Vec Ideal S3x32x512x320 .bf16)
    (a : Fin 264) (j : Fin 3) (b : Fin 32) (t : Fin 32) (r : Fin 16) : EReal :=
  ∑ l : Fin 320, (if I (ix4 t r ⟨a.val % 8, Nat.mod_lt _ (by decide)⟩ l) = BitVec.ofNat 32 a.val
      then W (ix4 t r ⟨a.val % 8, Nat.mod_lt _ (by decide)⟩ l) else (0 : EReal)) * P (ix4 j b (rowOf t r) l)

/-- One step's sum, from the arrays. -/
theorem stepSum_blocks (c : Dev nD) (a : Fin 264) (j : Fin 3) (b : Fin 32) (t : Fin cfg1.N) :
    stepSum (F := Ideal) (iblk V c 0 t) (iblk V c 1 t) (iblk V c 2 t) (ix2 a (colOf j b)) = ∑ r : Fin 16, rowPart (V c main_v83) (V c main_v95) (V c main_v96) a j b (pt t) r := by
  refine (stepSum_apply _ _ _ a j b).trans (Finset.sum_congr rfl fun r _ => Finset.sum_congr rfl fun l _ => ?_)
  rw [blk_0 V c t, blk_1 V c t, blk_2 V c t]

/-- The accumulator after step `n`, at an entry. -/
theorem acc_apply (c : Dev nD) (a : Fin 264) (j : Fin 3) (b : Fin 32) : ∀ (n : ℕ) (h : n < cfg1.N),
    (outsAt1 V c n h).2 (ix2 a (colOf j b))
      = ∑ t : Fin (n + 1), ∑ r : Fin 16, rowPart (V c main_v83) (V c main_v95) (V c main_v96) a j b ⟨t.val, by have := t.isLt; have := Nat.lt_of_lt_of_eq h N_1; omega⟩ r
  | 0, h => by
    rw [acc_zero, Fin.sum_univ_succ, Fin.sum_univ_zero, add_zero]
    show Ideal.ofBits .f32 0x00000000#32 + _ = _
    rw [Ideal.ofBits_zero_f32, zero_add]
    exact stepSum_blocks V c a j b ⟨0, h⟩
  | n + 1, h => by
    rw [acc_succ, Fin.sum_univ_castSucc]
    show _ + _ = _
    rw [acc_apply c a j b n]
    exact congrArg _ (stepSum_blocks V c a j b ⟨n + 1, h⟩)

/-- The sum over the accumulator's rows and images. -/
def lossOf (X : Fin 264 → Fin 3 → Fin 32 → EReal) : EReal :=
  (∑ a : Fin 264, ∑ b : Fin 32,
    if a.val ≤ 256 then Spec.ringTerm (max (X a 0 b) (-(X a 0 b))) (X a 1 b) (X a 2 b) else (0 : EReal)) * ((8224⁻¹ : ℝ) : EReal)

/-- The row test the loss makes: rings 0 to 256. -/
theorem ringRows : ∀ a : Fin 264, (Scalar.cmpi .sle (BitVec.ofNat 32 a.val) 256#32 = 1#1) ↔ a.val ≤ 256 := by decide +kernel

/-- A column of the accumulator cut out of it. -/
theorem cut_apply (X : Vec Ideal S264x96 .f32) (j : Fin 3) (h : S264x96.Slices ![0, 32 * j.val] S264x32) (a : Fin 264) (b : Fin 32) :
    extractStridedSlice S264x32 ![0, 32 * j.val] X h (ix2 a b) = X (ix2 a (colOf j b)) :=
  extractStridedSlice_apply _ X h _ (ix2 a (colOf j b)) fun d => by
    match d with
    | ⟨0, _⟩ => exact (Nat.zero_add _).symm
    | ⟨1, _⟩ => rfl

/-- The loss of an accumulator. -/
theorem loss_apply (X : Vec Ideal S264x96 .f32) (i : S1x1.Idx) :
    k1_pay2 (F := Ideal) X i = lossOf fun a j b => X (ix2 a (colOf j b)) := by
  have hk : (Named.named (F := Ideal) (φ := .f32) κ "inv_n" 0x38FF00FF#32 : Ideal .f32) = ((8224⁻¹ : ℝ) : EReal) :=
    IdealRules.named_const.ideal_named_scalar _ _ _ _ rfl
  have hsum : ∀ (v : Vec Ideal S264x32 .f32) (k : S1x1x1.Idx), shapeCast S1x1x1 (multiReduction (F := Ideal) .add [1, 2] S1
      (shapeCast S1x264x32 v shapeCasts_S264x32_S1x264x32) 0x00000000#32 reduces_S1x264x32_S1 (.inl rfl) rfl) shapeCasts_S1_S1x1x1 k
      = ∑ a : Fin 264, ∑ b : Fin 32, v (ix2 a b) := fun v k => by
    refine (Ideal.multiReduction_add_total (φ := .f32) _ _ reduces_S1x264x32_S1 (by decide) (.inl rfl) rfl _).trans ?_
    exact (Equiv.sum_comp (Shape.reshapeEquiv shapeCasts_S264x32_S1x264x32) v).trans (ValueIdx.sum_idx2 v)
  unfold k1_pay2 lossOf
  show _ * (Named.named (F := Ideal) (φ := .f32) κ "inv_n" 0x38FF00FF#32 : Ideal .f32) = _
  rw [hk]
  refine congrArg (· * ((8224⁻¹ : ℝ) : EReal)) ((hsum _ _).trans (Finset.sum_congr rfl fun a _ => Finset.sum_congr rfl fun b _ => ?_))
  have c0 := cut_apply X 0 slices_S264x96_o0_0_S264x32 a b
  have c1 := cut_apply X 1 slices_S264x96_o0_32_S264x32 a b
  have c2 := cut_apply X 2 slices_S264x96_o0_64_S264x32 a b
  show _ = if a.val ≤ 256 then Spec.ringTerm (max (X (ix2 a (colOf 0 b))) (-(X (ix2 a (colOf 0 b))))) (X (ix2 a (colOf 1 b)))
    (X (ix2 a (colOf 2 b))) else (0 : EReal)
  rw [← c0, ← c1, ← c2]
  show (if Scalar.cmpi .sle (iota .tc S264x32 32 [0] iota_S264x32_d0_w32 (ix2 a b)) 256#32 = 1#1 then _ else Ideal.ofBits .f32 0x00000000#32) = _
  rw [Ideal.ofBits_zero_f32, iota_single_apply]
  exact if_congr (ringRows a) rfl rfl

end Cert.KernelIdeal.Bins
-- ==== Proof.KernelIdeal.DftStep.lean ====
/- What one grid step of the first pallas_call writes: for each of its two image pairs, the three products of their half-plane
   transforms. -/
module

public import proofs.«01_k».proof.Proof.KernelIdeal.Dft
public import Idealize.ShloMosaic.Lib.Pipeline.Value
public import Idealize.ShloMosaic.Lib.ValueIdx
public import Idealize.ShloMosaic.Lib.Pipeline.ValueKit.Geometry

@[expose] public section

set_option maxRecDepth 16384

noncomputable section

namespace Cert.KernelIdeal.Dft

open Cert.KernelIdeal Cert.KernelIdeal.Gen
open Idealize.ShloMosaic Idealize.ShloMosaic.TcCoe Idealize.ShloMosaic.Tactic
open Idealize.SL.Sem Idealize.SL.RA Idealize.ShloMosaic.ValueIdx
open Idealize.ShloMosaic.Pipeline (Dat)

section Step
variable {F : FTy → Type} [FloatOps F] [Named F]

/-- Two zero offsets. -/
theorem off2 : (![0, 0] : Fin 2 → Nat) = fun _ => 0 := funext fun a => by fin_cases a <;> rfl

/-- Image `g` lies inside a block of two images. -/
theorem imgIn (g : Fin 2) : ∀ a, (![g.val, 0, 0] : Fin 3 → ℕ) a + S1x512x512.size a ≤ S2x512x512.size a := by
  revert g; decide

/-- Image `g` of a block. -/
def img (x : Vec F S2x512x512 .f32) (g : Fin 2) : Vec F S1x512x512 .f32 :=
  View.ld x (Rect.unit (s := S2x512x512) ![g.val, 0, 0] S1x512x512.size (imgIn g))

/-- The real part of an image's half-plane transform. -/
def halfRe (x2 x3 : Vec F S512x320 .bf16) (x4 x5 : Vec F S512x512 .bf16) (z : Vec F S1x512x512 .f32) : FVec F S512x320 .f32 :=
  k0_pay11 x2 x3 x4 x5 z
/-- Its imaginary part. -/
def halfIm (x2 x3 : Vec F S512x320 .bf16) (x4 x5 x6 : Vec F S512x512 .bf16) (z : Vec F S1x512x512 .f32) : FVec F S512x320 .f32 :=
  k0_pay12 x2 x3 x4 x5 x6 z

/-- The three products of two transforms. -/
def prodOf (j : Fin 3) (ar ai br bi : FVec F S512x320 .f32) : FVec F S512x320 .bf16 :=
  match j with
  | 0 => truncf .bf16 (addf (mulf ar br) (mulf ai bi)) bitsLt_bf16_f32
  | 1 => truncf .bf16 (addf (mulf ar ar) (mulf ai ai)) bitsLt_bf16_f32
  | 2 => truncf .bf16 (addf (mulf br br) (mulf bi bi)) bitsLt_bf16_f32

/-- The block a step writes. -/
def outTerm (x0 x1 : Vec F S2x512x512 .f32) (x2 x3 : Vec F S512x320 .bf16) (x4 x5 x6 : Vec F S512x512 .bf16) :
    Vec F S3x2x512x320 .bf16 := fun y =>
  prodOf (y 0 : Fin 3) (halfRe x2 x3 x4 x5 (img x0 (y 1))) (halfIm x2 x3 x4 x5 x6 (img x0 (y 1)))
    (halfRe x2 x3 x4 x5 (img x1 (y 1))) (halfIm x2 x3 x4 x5 x6 (img x1 (y 1))) (ix2 (y 2 : Fin 512) (y 3 : Fin 320))

/-- One store of the block, read at an index of the block. -/
theorem piece_at (j : Fin 3) (g : Fin 2) (inb : ∀ a, (![j.val, g.val, 0, 0] : Fin 4 → ℕ) a + S1x1x512x320.size a ≤ S3x2x512x320.size a)
    (f : FVec F S512x320 .bf16) (G : Vec F S3x2x512x320 .bf16) (hG : ∀ (k : Fin 512) (l : Fin 320), f (ix2 k l) = G (ix4 j g k l))
    (x : S1x1x512x320.Idx) :
    shapeCast S1x1x512x320 f shapeCasts_S512x320_S1x1x512x320 x
      = G ((Rect.unit (s := S3x2x512x320) ![j.val, g.val, 0, 0] S1x1x512x320.size inb).emb x) := by
  have h0 : (x 0).val = 0 := by have := (x 0).isLt; change (x 0).val < 1 at this; omega
  have h1 : (x 1).val = 0 := by have := (x 1).isLt; change (x 1).val < 1 at this; omega
  refine (shapeCast_apply f shapeCasts_S512x320_S1x1x512x320 x (ix2 (x 2 : Fin 512) (x 3 : Fin 320)) ?_).trans ((hG _ _).trans ?_)
  · simp only [Shape.rowMajor_val_two, Shape.rowMajor_val_four]
    show (x 2).val * 320 + (x 3).val = (((x 0).val * 1 + (x 1).val) * 512 + (x 2).val) * 320 + (x 3).val
    omega
  · refine congrArg G (funext fun a => Fin.ext ?_)
    refine Eq.trans ?_ (ValueKit.rect_emb_unit_val _ _ inb x a).symm
    match a with
    | ⟨0, _⟩ => show j.val = j.val + (x 0).val; omega
    | ⟨1, _⟩ => show g.val = g.val + (x 1).val; omega
    | ⟨2, _⟩ => exact (Nat.zero_add _).symm
    | ⟨3, _⟩ => exact (Nat.zero_add _).symm

end Step

section Out
variable {F : FTy → Type} [FloatOps F] [Named F]
variable {Ix : Type} [DecidableEq Ix] {U : Type} [URA U] {Lvl : Type} [Preorder Lvl]
variable (𝒱₀ : Variants) (c : Dev nD) (i : grid0.Coords)
  (arg1 : Memref sig .tc .vmem S2x512x512 .f32) (harg1 : arg1.IsWhole) (arg2 : Memref sig .tc .vmem S2x512x512 .f32) (harg2 : arg2.IsWhole)
  (arg3 : Memref sig .tc .vmem S512x320 .bf16) (harg3 : arg3.IsWhole) (arg4 : Memref sig .tc .vmem S512x320 .bf16) (harg4 : arg4.IsWhole)
  (arg5 : Memref sig .tc .vmem S512x512 .bf16) (harg5 : arg5.IsWhole) (arg6 : Memref sig .tc .vmem S512x512 .bf16) (harg6 : arg6.IsWhole)
  (arg7 : Memref sig .tc .vmem S512x512 .bf16) (harg7 : arg7.IsWhole) (arg8 : Memref sig .tc .vmem S3x2x512x320 .bf16) (harg8 : arg8.IsWhole)
  (x0 x1 : Vec F S2x512x512 .f32) (x2 x3 : Vec F S512x320 .bf16) (x4 x5 x6 : Vec F S512x512 .bf16)

/-- A step writes the products of its two image pairs. -/
theorem out_eq : out0_A_7 (Ix := Ix) (U := U) (Lvl := Lvl) 𝒱₀ c i arg1 harg1 arg2 harg2 arg3 harg3 arg4 harg4 arg5 harg5 arg6 harg6
    arg7 harg7 arg8 harg8 x0 x1 x2 x3 x4 x5 x6 = outTerm x0 x1 x2 x3 x4 x5 x6 := by
  have hcov := cover0_A_7 (Ix := Ix) (U := U) (Lvl := Lvl) 𝒱₀ c i arg1 harg1 arg2 harg2 arg3 harg3 arg4 harg4 arg5 harg5 arg6 harg6
    arg7 harg7 arg8 harg8 x0 x1 x2 x3 x4 x5 x6
  unfold out0_A_7
  rw [View.read_writes_eq_canon _ _ _ hcov]
  funext y
  refine View.canon_apply_of_pieces (outTerm x0 x1 x2 x3 x4 x5 x6) _ ?_ y (hcov y)
  unfold kernelRun0_A
  dsimp only
  sl_unfold_words
  simp only [View.readAt_eq_ld, harg1.read_unread, harg2.read_unread, harg3.read_unread, harg4.read_unread, harg5.read_unread,
    harg6.read_unread, harg7.read_unread, View.ld_unit_zero (S := S512x320) off2, View.ld_unit_zero (S := S512x512) off2]
  simp only [List.forall_mem_cons, List.not_mem_nil, false_imp_iff, implies_true, and_true]
  refine ⟨?_, ?_, ?_, ?_, ?_, ?_⟩
  · exact piece_at 2 1 inb_S3x2x512x320_S1x1x512x320_2_1_0_0 (prodOf 2 (halfRe x2 x3 x4 x5 (img x0 1)) (halfIm x2 x3 x4 x5 x6 (img x0 1))
      (halfRe x2 x3 x4 x5 (img x1 1)) (halfIm x2 x3 x4 x5 x6 (img x1 1))) (outTerm x0 x1 x2 x3 x4 x5 x6) (fun k l => rfl)
  · exact piece_at 1 1 inb_S3x2x512x320_S1x1x512x320_1_1_0_0 (prodOf 1 (halfRe x2 x3 x4 x5 (img x0 1)) (halfIm x2 x3 x4 x5 x6 (img x0 1))
      (halfRe x2 x3 x4 x5 (img x1 1)) (halfIm x2 x3 x4 x5 x6 (img x1 1))) (outTerm x0 x1 x2 x3 x4 x5 x6) (fun k l => rfl)
  · exact piece_at 0 1 inb_S3x2x512x320_S1x1x512x320_0_1_0_0 (prodOf 0 (halfRe x2 x3 x4 x5 (img x0 1)) (halfIm x2 x3 x4 x5 x6 (img x0 1))
      (halfRe x2 x3 x4 x5 (img x1 1)) (halfIm x2 x3 x4 x5 x6 (img x1 1))) (outTerm x0 x1 x2 x3 x4 x5 x6) (fun k l => rfl)
  · exact piece_at 2 0 inb_S3x2x512x320_S1x1x512x320_2_0_0_0 (prodOf 2 (halfRe x2 x3 x4 x5 (img x0 0)) (halfIm x2 x3 x4 x5 x6 (img x0 0))
      (halfRe x2 x3 x4 x5 (img x1 0)) (halfIm x2 x3 x4 x5 x6 (img x1 0))) (outTerm x0 x1 x2 x3 x4 x5 x6) (fun k l => rfl)
  · exact piece_at 1 0 inb_S3x2x512x320_S1x1x512x320_1_0_0_0 (prodOf 1 (halfRe x2 x3 x4 x5 (img x0 0)) (halfIm x2 x3 x4 x5 x6 (img x0 0))
      (halfRe x2 x3 x4 x5 (img x1 0)) (halfIm x2 x3 x4 x5 x6 (img x1 0))) (outTerm x0 x1 x2 x3 x4 x5 x6) (fun k l => rfl)
  · exact piece_at 0 0 inb_S3x2x512x320_S1x1x512x320_0_0_0_0 (prodOf 0 (halfRe x2 x3 x4 x5 (img x0 0)) (halfIm x2 x3 x4 x5 x6 (img x0 0))
      (halfRe x2 x3 x4 x5 (img x1 0)) (halfIm x2 x3 x4 x5 x6 (img x1 0))) (outTerm x0 x1 x2 x3 x4 x5 x6) (fun k l => rfl)
end Out

end Cert.KernelIdeal.Dft
-- ==== Proof.KernelIdeal.DftArr.lean ====
/- What the first pallas_call leaves in its result: for every image pair the three products of their half-plane transforms. -/
module

public import proofs.«01_k».proof.Proof.KernelIdeal.DftStep

@[expose] public section

set_option maxRecDepth 16384

noncomputable section

namespace Cert.KernelIdeal.Dft

open Cert.KernelIdeal Cert.KernelIdeal.Gen
open Idealize.ShloMosaic Idealize.ShloMosaic.TcCoe Idealize.ShloMosaic.Tactic
open Idealize.SL.Sem Idealize.SL.RA Idealize.ShloMosaic.ValueIdx
open Idealize.ShloMosaic.Pipeline (Dat)

variable {F : FTy → Type} [FloatOps F] [Named F]
variable {Ix : Type} [DecidableEq Ix] {U : Type} [URA U] {Lvl : Type} [Preorder Lvl]
variable (𝒱₀ : Variants) (V : (c : Dev nD) → (b : Ref sig .tc) → Buf (Elt F) ((c : Thread nD τ).loc b))

/-- The block every window reads or writes at a point. -/
theorem indices0 : ∀ t : Fin cfg0.N,
    (win0_0.index t 0 = t.val ∧ win0_0.index t 1 = 0 ∧ win0_0.index t 2 = 0) ∧
    (win0_1.index t 0 = t.val ∧ win0_1.index t 1 = 0 ∧ win0_1.index t 2 = 0) ∧
    (win0_7.index t 0 = 0 ∧ win0_7.index t 1 = t.val ∧ win0_7.index t 2 = 0 ∧ win0_7.index t 3 = 0) := by decide +kernel

/-- The table windows always read the whole table. -/
theorem indices0_tab : ∀ t : Fin cfg0.N,
    (win0_2.index t 0 = 0 ∧ win0_2.index t 1 = 0) ∧ (win0_3.index t 0 = 0 ∧ win0_3.index t 1 = 0) ∧
    (win0_4.index t 0 = 0 ∧ win0_4.index t 1 = 0) ∧ (win0_5.index t 0 = 0 ∧ win0_5.index t 1 = 0) ∧
    (win0_6.index t 0 = 0 ∧ win0_6.index t 1 = 0) := by decide +kernel

/-- Image `b` of a batch. -/
def imgOf (x : Vec F S32x512x512 .f32) (b : Fin 32) : Vec F S1x512x512 .f32 := fun z => x (ix3 b (z 1 : Fin 512) (z 2 : Fin 512))

/-- The product array. -/
def prodArr (x1 x2 : Vec F S32x512x512 .f32) (ch shn : Vec F S512x320 .bf16) (cc s cms : Vec F S512x512 .bf16) :
    Vec F S3x32x512x320 .bf16 := fun y =>
  prodOf (y 0 : Fin 3) (halfRe ch shn cc s (imgOf x1 (y 1))) (halfIm ch shn cc s cms (imgOf x1 (y 1)))
    (halfRe ch shn cc s (imgOf x2 (y 1))) (halfIm ch shn cc s cms (imgOf x2 (y 1))) (ix2 (y 2 : Fin 512) (y 3 : Fin 320))

/-- Image `g` of point `t`. -/
def imgNo (t : Fin cfg0.N) (g : Fin 2) : Fin 32 := ⟨2 * t.val + g.val, by
  have := Nat.lt_of_lt_of_eq t.isLt N_0; have := g.isLt; omega⟩

/-- The first image block. -/
theorem blk_0 (c : Dev nD) (t : Fin cfg0.N) (g : Fin 2) :
    img (iblk V c 0 t : Vec F S2x512x512 .f32) g = imgOf (V c main_v0 : Vec F S32x512x512 .f32) (imgNo t g) := by
  obtain ⟨⟨h0, h1, h2⟩, -, -⟩ := indices0 t
  funext z
  have z0 : (z 0).val = 0 := by have := (z 0).isLt; change (z 0).val < 1 at this; omega
  refine congrArg (V c main_v0 : Vec F S32x512x512 .f32) (funext fun d => Fin.ext ?_)
  refine (Pipeline.Window.rect_emb_val win0_0 t _ d).trans ?_
  refine (congrArg (_ + ·) (ValueKit.rect_emb_unit_val (s := S2x512x512) ![g.val, 0, 0] S1x512x512.size (imgIn g) z d)).trans ?_
  match d with
  | ⟨0, _⟩ => show win0_0.index t 0 * 2 + (g.val + (z 0).val) = 2 * t.val + g.val; rw [h0]; omega
  | ⟨1, _⟩ => show win0_0.index t 1 * 512 + (0 + (z 1).val) = (z 1).val; rw [h1]; omega
  | ⟨2, _⟩ => show win0_0.index t 2 * 512 + (0 + (z 2).val) = (z 2).val; rw [h2]; omega

/-- The second image block. -/
theorem blk_1 (c : Dev nD) (t : Fin cfg0.N) (g : Fin 2) :
    img (iblk V c 1 t : Vec F S2x512x512 .f32) g = imgOf (V c main_v1 : Vec F S32x512x512 .f32) (imgNo t g) := by
  obtain ⟨-, ⟨h0, h1, h2⟩, -⟩ := indices0 t
  funext z
  have z0 : (z 0).val = 0 := by have := (z 0).isLt; change (z 0).val < 1 at this; omega
  refine congrArg (V c main_v1 : Vec F S32x512x512 .f32) (funext fun d => Fin.ext ?_)
  refine (Pipeline.Window.rect_emb_val win0_1 t _ d).trans ?_
  refine (congrArg (_ + ·) (ValueKit.rect_emb_unit_val (s := S2x512x512) ![g.val, 0, 0] S1x512x512.size (imgIn g) z d)).trans ?_
  match d with
  | ⟨0, _⟩ => show win0_1.index t 0 * 2 + (g.val + (z 0).val) = 2 * t.val + g.val; rw [h0]; omega
  | ⟨1, _⟩ => show win0_1.index t 1 * 512 + (0 + (z 1).val) = (z 1).val; rw [h1]; omega
  | ⟨2, _⟩ => show win0_1.index t 2 * 512 + (0 + (z 2).val) = (z 2).val; rw [h2]; omega

/-- The half-plane cosine block. -/
theorem blk_2 (c : Dev nD) (t : Fin cfg0.N) : (iblk V c 2 t : Vec F S512x320 .bf16) = (V c main_v43 : Vec F S512x320 .bf16) := by
  obtain ⟨⟨h0, h1⟩, -⟩ := indices0_tab t
  funext z
  refine congrArg (V c main_v43 : Vec F S512x320 .bf16) (funext fun d => Fin.ext ?_)
  refine (Pipeline.Window.rect_emb_val win0_2 t z d).trans ?_
  match d with
  | ⟨0, _⟩ => show win0_2.index t 0 * 512 + (z 0).val = (z 0).val; rw [h0]; omega
  | ⟨1, _⟩ => show win0_2.index t 1 * 320 + (z 1).val = (z 1).val; rw [h1]; omega

/-- The half-plane sine block. -/
theorem blk_3 (c : Dev nD) (t : Fin cfg0.N) : (iblk V c 3 t : Vec F S512x320 .bf16) = (V c main_v52 : Vec F S512x320 .bf16) := by
  obtain ⟨-, ⟨h0, h1⟩, -⟩ := indices0_tab t
  funext z
  refine congrArg (V c main_v52 : Vec F S512x320 .bf16) (funext fun d => Fin.ext ?_)
  refine (Pipeline.Window.rect_emb_val win0_3 t z d).trans ?_
  match d with
  | ⟨0, _⟩ => show win0_3.index t 0 * 512 + (z 0).val = (z 0).val; rw [h0]; omega
  | ⟨1, _⟩ => show win0_3.index t 1 * 320 + (z 1).val = (z 1).val; rw [h1]; omega

/-- The cosine block. -/
theorem blk_4 (c : Dev nD) (t : Fin cfg0.N) : (iblk V c 4 t : Vec F S512x512 .bf16) = (V c main_v20 : Vec F S512x512 .bf16) := by
  obtain ⟨-, -, ⟨h0, h1⟩, -⟩ := indices0_tab t
  funext z
  refine congrArg (V c main_v20 : Vec F S512x512 .bf16) (funext fun d => Fin.ext ?_)
  refine (Pipeline.Window.rect_emb_val win0_4 t z d).trans ?_
  match d with
  | ⟨0, _⟩ => show win0_4.index t 0 * 512 + (z 0).val = (z 0).val; rw [h0]; omega
  | ⟨1, _⟩ => show win0_4.index t 1 * 512 + (z 1).val = (z 1).val; rw [h1]; omega

/-- The sine block. -/
theorem blk_5 (c : Dev nD) (t : Fin cfg0.N) : (iblk V c 5 t : Vec F S512x512 .bf16) = (V c main_v21 : Vec F S512x512 .bf16) := by
  obtain ⟨-, -, -, ⟨h0, h1⟩, -⟩ := indices0_tab t
  funext z
  refine congrArg (V c main_v21 : Vec F S512x512 .bf16) (funext fun d => Fin.ext ?_)
  refine (Pipeline.Window.rect_emb_val win0_5 t z d).trans ?_
  match d with
  | ⟨0, _⟩ => show win0_5.index t 0 * 512 + (z 0).val = (z 0).val; rw [h0]; omega
  | ⟨1, _⟩ => show win0_5.index t 1 * 512 + (z 1).val = (z 1).val; rw [h1]; omega

/-- The cosine-minus-sine block. -/
theorem blk_6 (c : Dev nD) (t : Fin cfg0.N) : (iblk V c 6 t : Vec F S512x512 .bf16) = (V c main_v23 : Vec F S512x512 .bf16) := by
  obtain ⟨-, -, -, -, ⟨h0, h1⟩⟩ := indices0_tab t
  funext z
  refine congrArg (V c main_v23 : Vec F S512x512 .bf16) (funext fun d => Fin.ext ?_)
  refine (Pipeline.Window.rect_emb_val win0_6 t z d).trans ?_
  match d with
  | ⟨0, _⟩ => show win0_6.index t 0 * 512 + (z 0).val = (z 0).val; rw [h0]; omega
  | ⟨1, _⟩ => show win0_6.index t 1 * 512 + (z 1).val = (z 1).val; rw [h1]; omega

/-- The place of a written block in the product array. -/
theorem place (t : Fin cfg0.N) (y : S3x2x512x320.Idx) :
    ((cfg0.win 7).blk t).view.emb y = (ix4 (y 0 : Fin 3) (imgNo t (y 1 : Fin 2)) (y 2 : Fin 512) (y 3 : Fin 320) : S3x32x512x320.Idx) := by
  obtain ⟨-, -, h0, h1, h2, h3⟩ := indices0 t
  refine funext fun d => Fin.ext ?_
  refine (Pipeline.Window.rect_emb_val win0_7 t y d).trans ?_
  match d with
  | ⟨0, _⟩ => show win0_7.index t 0 * 3 + (y 0).val = (y 0).val; rw [h0]; omega
  | ⟨1, _⟩ => show win0_7.index t 1 * 2 + (y 1).val = 2 * t.val + (y 1).val; rw [h1]; omega
  | ⟨2, _⟩ => show win0_7.index t 2 * 512 + (y 2).val = (y 2).val; rw [h2]; omega
  | ⟨3, _⟩ => show win0_7.index t 3 * 320 + (y 3).val = (y 3).val; rw [h3]; omega

/-- A step's block at an entry, its images named. -/
theorem outTerm_of (x0 x1 : Vec F S2x512x512 .f32) (x2 x3 : Vec F S512x320 .bf16) (x4 x5 x6 : Vec F S512x512 .bf16)
    (y : S3x2x512x320.Idx) (A B : Vec F S1x512x512 .f32) (hA : img x0 (y 1) = A) (hB : img x1 (y 1) = B) :
    outTerm x0 x1 x2 x3 x4 x5 x6 y = prodOf (y 0 : Fin 3) (halfRe x2 x3 x4 x5 A) (halfIm x2 x3 x4 x5 x6 A)
      (halfRe x2 x3 x4 x5 B) (halfIm x2 x3 x4 x5 x6 B) (ix2 (y 2 : Fin 512) (y 3 : Fin 320)) := by
  unfold outTerm; rw [hA, hB]

variable (D : Dev nD → CellTallies nD τ sig Ix)

/-- What the call leaves in its result. -/
theorem arr_out (c : Dev nD) : (dat (Ix := Ix) (U := U) (Lvl := Lvl) 𝒱₀ V D c).arrAt 7 cfg0.N
    = prodArr (V c main_v0) (V c main_v1) (V c main_v43) (V c main_v52) (V c main_v20) (V c main_v21) (V c main_v23) := by
  refine (dat (Ix := Ix) (U := U) (Lvl := Lvl) 𝒱₀ V D c).arrAt_eq_of_covers 7 _ (by decide +kernel) fun t hf y => ?_
  refine Eq.trans ?_ (congrArg _ (place t y)).symm
  rw [after0_7]
  unfold outsAt0
  rw [out_eq]
  show outTerm (iblk V c 0 t) (iblk V c 1 t) (iblk V c 2 t) (iblk V c 3 t) (iblk V c 4 t) (iblk V c 5 t) (iblk V c 6 t) _ = _
  rw [blk_2, blk_3, blk_4, blk_5, blk_6]
  exact outTerm_of _ _ _ _ _ _ _ y _ _ (blk_0 V c t (y 1 : Fin 2)) (blk_1 V c t (y 1 : Fin 2))

end Cert.KernelIdeal.Dft
-- ==== Proof.KernelIdeal.Tables.lean ====
/- The tables the kernel's @main builds before its first pallas_call: the cosine and sine tables of the transform, the bin of
   every frequency, and the weight of every column of the half plane. -/
module

public import proofs.«01_k».proof.Proof.KernelIdeal.Run
public import Idealize.ShloMosaic.Lib.Pipeline.Value
public import Idealize.ShloMosaic.Lib.ValueIdx
public import Idealize.ShloMosaic.PureOps.Ideal.Laws

@[expose] public section

set_option maxRecDepth 16384

noncomputable section

namespace Cert.KernelIdeal.Tables

open Cert.KernelIdeal Cert.KernelIdeal.Gen
open Idealize.ShloMosaic Idealize.ShloMosaic.TcCoe Idealize.ShloMosaic.Tactic
open Idealize.SL.Sem Idealize.ShloMosaic.StableHlo
open Idealize.ShloMosaic.ValueIdx

section Terms
variable {F : FTy → Type} [FloatOps F] [Named F]

/-- Twice the angle whose cosine is -1. -/
def twoPi : FVec F S_ .f32 := mulf (constant S_ .f32 0x40000000#32) (Host.acos (constant S_ .f32 0xBF800000#32))

/-- The angles of the full tables. -/
def angle : FVec F S512x512 .f32 :=
  Host.divf (mulf (broadcastInDim S512x512 ![] bcast_S_S512x512 (twoPi (F := F)))
    (sitofp .f32 (Host.remsi (muli (iotaInDim S512x512 32 0) (iotaInDim S512x512 32 1))
      (broadcastInDim S512x512 ![] bcast_S_S512x512 (constantI S_ 32 512#32)))))
    (broadcastInDim S512x512 ![] bcast_S_S512x512 (constant S_ .f32 0x44000000#32))

/-- The scaled cosine table. -/
def cosTab : FVec F S512x512 .f32 :=
  Host.divf (Host.cos angle) (broadcastInDim S512x512 ![] bcast_S_S512x512 (constant S_ .f32 0x44000000#32))
/-- The scaled sine table. -/
def sinTab : FVec F S512x512 .f32 :=
  Host.divf (Host.sin angle) (broadcastInDim S512x512 ![] bcast_S_S512x512 (constant S_ .f32 0x44000000#32))

/-- The angles of the half-plane tables. -/
def angleHalf : FVec F S512x320 .f32 :=
  Host.divf (mulf (broadcastInDim S512x320 ![] bcast_S_S512x320 (twoPi (F := F)))
    (sitofp .f32 (Host.remsi (muli (iotaInDim S512x320 32 0) (iotaInDim S512x320 32 1))
      (broadcastInDim S512x320 ![] bcast_S_S512x320 (constantI S_ 32 512#32)))))
    (broadcastInDim S512x320 ![] bcast_S_S512x320 (constant S_ .f32 0x44000000#32))

/-- The columns up to the Nyquist frequency. -/
def colKept : IVec S512x320 1 :=
  cmpi .slt (iotaInDim S512x320 32 1) (broadcastInDim S512x320 ![] bcast_S_S512x320 (constantI S_ 32 257#32))

/-- The half-plane cosine table. -/
def cosHalf : FVec F S512x320 .f32 :=
  select colKept (Host.divf (Host.cos angleHalf) (broadcastInDim S512x320 ![] bcast_S_S512x320 (constant S_ .f32 0x44000000#32)))
    (broadcastInDim S512x320 ![] bcast_S_S512x320 (constant S_ .f32 0x00000000#32))
/-- The half-plane negated sine table. -/
def sinHalf : FVec F S512x320 .f32 :=
  select colKept (Host.negf (Host.divf (Host.sin angleHalf) (broadcastInDim S512x320 ![] bcast_S_S512x320 (constant S_ .f32 0x44000000#32))))
    (broadcastInDim S512x320 ![] bcast_S_S512x320 (constant S_ .f32 0x00000000#32))

/-- The same word in every place of the bin tables. -/
def wide (b : BitVec 32) : IVec S32x16x8x320 32 := broadcastInDim S32x16x8x320 ![] bcast_S_S32x16x8x320 (constantI S_ 32 b)
/-- The image row. -/
def rowTab : IVec S32x16x8x320 32 := addi (muli (iotaInDim S32x16x8x320 32 0) (wide 16#32)) (iotaInDim S32x16x8x320 32 1)
/-- The image column. -/
def colTab : IVec S32x16x8x320 32 := iotaInDim S32x16x8x320 32 3
/-- The signed frequency of a position. -/
def freqTab (k : IVec S32x16x8x320 32) : FVec F S32x16x8x320 .f32 :=
  sitofp .f32 (select (cmpi .slt k (wide 256#32)) k (subi k (wide 512#32)))
/-- The rounded radius. -/
def radTab : IVec S32x16x8x320 32 :=
  fptosi 32 (Host.roundeven (Host.sqrt (addf (mulf (freqTab (F := F) rowTab) (freqTab rowTab)) (mulf (freqTab colTab) (freqTab colTab)))))
/-- The bins. -/
def binTab : IVec S32x16x8x320 32 :=
  select (andi (cmpi .slt colTab (wide 257#32)) (cmpi .sle (radTab (F := F)) (wide 256#32))) (radTab (F := F)) (wide 257#32)
/-- The weights. -/
def weightTab : FVec F S32x16x8x320 .f32 :=
  select (ori (cmpi .eq colTab (wide 0#32)) (cmpi .eq colTab (wide 256#32)))
    (broadcastInDim S32x16x8x320 ![] bcast_S_S32x16x8x320 (constant S_ .f32 0x3F800000#32))
    (select (cmpi .slt colTab (wide 256#32))
      (broadcastInDim S32x16x8x320 ![] bcast_S_S32x16x8x320 (constant S_ .f32 0x40000000#32))
      (broadcastInDim S32x16x8x320 ![] bcast_S_S32x16x8x320 (constant S_ .f32 0x00000000#32)))

variable (m : Run.Mem F) (c : Dev nD)

/-- The first call's first image operand. -/
theorem main_v0_eq : V1 m c main_v0 = shapeCast S32x512x512 (m ((c : Thread nD τ).loc main_arg0) : Vec F S32x1x512x512 .f32) shapeCasts_S32x1x512x512_S32x512x512 := by
  after_results_simp <;> rfl
/-- Its second. -/
theorem main_v1_eq : V1 m c main_v1 = shapeCast S32x512x512 (m ((c : Thread nD τ).loc main_arg1) : Vec F S32x1x512x512 .f32) shapeCasts_S32x1x512x512_S32x512x512 := by
  after_results_simp <;> rfl
/-- The cosine operand. -/
theorem main_v20_eq : V1 m c main_v20 = truncf .bf16 (cosTab (F := F)) bitsLt_bf16_f32 := by
  after_results_simp <;> rfl
/-- The sine operand. -/
theorem main_v21_eq : V1 m c main_v21 = truncf .bf16 (sinTab (F := F)) bitsLt_bf16_f32 := by
  after_results_simp <;> rfl
/-- The cosine-minus-sine operand. -/
theorem main_v23_eq : V1 m c main_v23 = truncf .bf16 (subf (cosTab (F := F)) sinTab) bitsLt_bf16_f32 := by
  after_results_simp <;> rfl
/-- The half-plane cosine operand. -/
theorem main_v43_eq : V1 m c main_v43 = truncf .bf16 (cosHalf (F := F)) bitsLt_bf16_f32 := by
  after_results_simp <;> rfl
/-- The half-plane sine operand. -/
theorem main_v52_eq : V1 m c main_v52 = truncf .bf16 (sinHalf (F := F)) bitsLt_bf16_f32 := by
  after_results_simp <;> rfl
/-- The bin operand. -/
theorem main_v83_eq : V1 m c main_v83 = binTab (F := F) := by
  after_results_simp <;> rfl
/-- The weight operand. -/
theorem main_v95_eq : V1 m c main_v95 = weightTab (F := F) := by
  after_results_simp <;> rfl
end Terms

end Cert.KernelIdeal.Tables
-- ==== Proof.Words.lean ====
/- Facts about the words and constants both programs build their tables from. -/
module

public import proofs.«01_k».proof.Proof.Spec
public import Idealize.ShloMosaic.Lib.WordArith
public import Idealize.ShloMosaic.Lib.WordCmp
public import Idealize.ShloMosaic.Lib.Affine
public import Idealize.ShloMosaic.Lib.IdealHost
public import Idealize.ShloMosaic.PureOps.Ideal.Laws

@[expose] public section

noncomputable section

namespace Cert.Spec

open Idealize.ShloMosaic

/-! ## Constants -/

/-- The word of 2, -/
theorem bits_two : Ideal.ofBits .f32 0x40000000#32 = ((2 : ℝ) : EReal) := by
  simp [Ideal.ofBits, Ideal.ieee, -EReal.coe_mul]; norm_num
/-- of -1, -/
theorem bits_neg_one : Ideal.ofBits .f32 0xBF800000#32 = ((-1 : ℝ) : EReal) := by
  simp [Ideal.ofBits, Ideal.ieee, -EReal.coe_mul]; norm_num
/-- of 512, -/
theorem bits_512 : Ideal.ofBits .f32 0x44000000#32 = ((512 : ℝ) : EReal) := by
  simp [Ideal.ofBits, Ideal.ieee, -EReal.coe_mul]; norm_num
/-- of 512 squared, -/
theorem bits_262144 : Ideal.ofBits .f32 0x48800000#32 = ((262144 : ℝ) : EReal) := by
  simp [Ideal.ofBits, Ideal.ieee, -EReal.coe_mul]; norm_num
/-- and of 257 times 32. -/
theorem bits_8224 : Ideal.ofBits .f32 0x46008000#32 = ((8224 : ℝ) : EReal) := by
  simp [Ideal.ofBits, Ideal.ieee, -EReal.coe_mul]; norm_num

/-- A sum of real numbers. -/
theorem coe_sum {ι : Type} (s : Finset ι) (f : ι → ℝ) : ((∑ i ∈ s, f i : ℝ) : EReal) = ∑ i ∈ s, ((f i : ℝ) : EReal) := by
  classical
  refine Finset.induction_on s (by simp) fun a s ha ih => ?_
  rw [Finset.sum_insert ha, Finset.sum_insert ha, EReal.coe_add, ih]

/-- A real number divided by a real number other than zero. -/
theorem div_real (x y : ℝ) (h : y ≠ 0) : Ideal.div (x : EReal) (y : EReal) = ((x / y : ℝ) : EReal) := by
  rw [Ideal.div_coe h, ← EReal.coe_mul]; congr 1; ring

/-- Twice the angle whose cosine is -1 is a full turn. -/
theorem turn : Ideal.ofBits .f32 0x40000000#32 * Ideal.acos (Ideal.ofBits .f32 0xBF800000#32) = ((2 * Real.pi : ℝ) : EReal) := by
  rw [bits_two, bits_neg_one, Ideal.acos_coe, if_pos (by norm_num), Real.arccos_neg_one, EReal.coe_mul]

/-- An angle as the programs compute it. -/
theorem angle_eq (n : ℤ) : Ideal.div (Ideal.ofBits .f32 0x40000000#32 * Ideal.acos (Ideal.ofBits .f32 0xBF800000#32) * ((n : ℝ) : EReal))
    (Ideal.ofBits .f32 0x44000000#32) = ((2 * Real.pi * (n : ℝ) / 512 : ℝ) : EReal) := by
  rw [turn, bits_512, ← EReal.coe_mul, div_real _ _ (by norm_num)]

/-! ## Words -/

/-- The product of two positions, as a word. -/
theorem mul_toNat (k h : ℕ) (hk : k < 512) (hh : h < 512) : (IntOp.muli (BitVec.ofNat 32 k) (BitVec.ofNat 32 h)).toNat = k * h := by
  have hp : k * h ≤ 511 * 511 := Nat.mul_le_mul (by omega) (by omega)
  show (BitVec.ofNat 32 k * BitVec.ofNat 32 h).toNat = _
  rw [← BitVec.ofNat_mul, BitVec.toNat_ofNat, Nat.mod_eq_of_lt (by omega)]
/-- The product of two table positions does not overflow. -/
theorem mul_toInt (k h : ℕ) (hk : k < 512) (hh : h < 512) : (IntOp.muli (BitVec.ofNat 32 k) (BitVec.ofNat 32 h)).toInt = ((k * h : ℕ) : ℤ) := by
  have hp : k * h ≤ 511 * 511 := Nat.mul_le_mul (by omega) (by omega)
  have e := mul_toNat k h hk hh
  rw [BitVec.toInt_eq_toNat_of_lt (by rw [e]; omega), e]
/-- Its remainder by 512. -/
theorem rem_toInt (u : ArithUnit) (k h : ℕ) (hk : k < 512) (hh : h < 512) :
    (IntOp.remsi u (IntOp.muli (BitVec.ofNat 32 k) (BitVec.ofNat 32 h)) 512#32).toInt = ((k * h % 512 : ℕ) : ℤ) := by
  have hp : k * h ≤ 511 * 511 := Nat.mul_le_mul (by omega) (by omega)
  have e := mul_toNat k h hk hh
  have e2 := IntOp.toNat_remsi u (x := IntOp.muli (BitVec.ofNat 32 k) (BitVec.ofNat 32 h)) (by rw [e]; omega) 512 (by omega) (by omega)
  rw [e] at e2
  have hm : k * h % 512 < 512 := Nat.mod_lt _ (by omega)
  rw [BitVec.toInt_eq_toNat_of_lt (by rw [e2]; omega), e2]

/-- The signed frequency of a position, as a word. -/
theorem freq_word : ∀ k : Fin 512,
    (Scalar.select (IntOp.cmpi .slt (BitVec.ofNat 32 k.val) 256#32) (BitVec.ofNat 32 k.val) (IntOp.subi (BitVec.ofNat 32 k.val) 512#32)).toInt
      = if k.val < 256 then (k.val : ℤ) else (k.val : ℤ) - 512 := by decide +kernel
/-- The frequency of a position, as a real number. -/
theorem freq_real (k : ℕ) (hk : k < 512) :
    ((Scalar.select (IntOp.cmpi .slt (BitVec.ofNat 32 k) 256#32) (BitVec.ofNat 32 k) (IntOp.subi (BitVec.ofNat 32 k) 512#32)).toInt : ℝ) = freq k := by
  rw [freq_word ⟨k, hk⟩]
  unfold freq
  split <;> simp

/-- A word clipped at 257 equals a number up to 256 exactly when the word does. -/
theorem clip_sgt (w : BitVec 32) (a : ℕ) (ha : a ≤ 256) :
    Scalar.select (IntOp.cmpi .sgt w 256#32) 257#32 w = BitVec.ofNat 32 a ↔ w = BitVec.ofNat 32 a := by
  have hn : (BitVec.ofNat 32 a).toNat = a := by rw [BitVec.toNat_ofNat]; omega
  have hi := WordArith.toInt_ofNat_small a (by omega)
  unfold Scalar.select
  split
  · rename_i hc
    constructor
    · intro e
      have := congrArg BitVec.toNat e
      rw [hn] at this
      have h257 : (257#32 : BitVec 32).toNat = 257 := rfl
      omega
    · rintro rfl
      exfalso
      rw [show (1 : BitVec 1) = 1#1 from rfl, IntOp.cmpi_sgt, hi] at hc
      have : (256#32 : BitVec 32).toInt = 256 := rfl
      omega
  · rfl

/-- The kernel's bin of a column and a radius equals a number up to 256 exactly when the column is kept and the radius is that
    number. -/
theorem bin_word (l : ℕ) (hl : l < 320) (w : BitVec 32) (a : ℕ) (ha : a ≤ 256) :
    Scalar.select (IntOp.andi (IntOp.cmpi .slt (BitVec.ofNat 32 l) 257#32) (IntOp.cmpi .sle w 256#32)) w 257#32 = BitVec.ofNat 32 a
      ↔ l < 257 ∧ w = BitVec.ofNat 32 a := by
  have hn : (BitVec.ofNat 32 a).toNat = a := by rw [BitVec.toNat_ofNat]; omega
  have hi := WordArith.toInt_ofNat_small a (by omega)
  have hli := WordArith.toInt_ofNat_small l (by omega)
  have h256 : (256#32 : BitVec 32).toInt = 256 := rfl
  have h257 : (257#32 : BitVec 32).toInt = 257 := rfl
  unfold Scalar.select
  split
  · rename_i hc
    rw [show (1 : BitVec 1) = 1#1 from rfl, IntOp.andi_eq_one, IntOp.cmpi_slt, IntOp.cmpi_sle, hli, h257] at hc
    exact ⟨fun e => ⟨by omega, e⟩, fun e => e.2⟩
  · rename_i hc
    rw [show (1 : BitVec 1) = 1#1 from rfl, IntOp.andi_eq_one, IntOp.cmpi_slt, IntOp.cmpi_sle, hli, h257, h256] at hc
    constructor
    · intro e
      have := congrArg BitVec.toNat e
      rw [hn] at this
      have h257 : (257#32 : BitVec 32).toNat = 257 := rfl
      omega
    · rintro ⟨h1, rfl⟩
      rw [hi] at hc
      exact absurd ⟨by omega, by omega⟩ hc

/-- The weight of a column. -/
theorem weight_word {α : Type} (x y z : α) : ∀ l : Fin 320,
    Scalar.select (IntOp.ori (IntOp.cmpi .eq (BitVec.ofNat 32 l.val) 0#32) (IntOp.cmpi .eq (BitVec.ofNat 32 l.val) 256#32)) x
      (Scalar.select (IntOp.cmpi .slt (BitVec.ofNat 32 l.val) 256#32) y z)
      = if l.val = 0 ∨ l.val = 256 then x else if l.val < 256 then y else z := by
  intro l
  have h1 : ∀ l : Fin 320, (IntOp.ori (IntOp.cmpi .eq (BitVec.ofNat 32 l.val) 0#32) (IntOp.cmpi .eq (BitVec.ofNat 32 l.val) 256#32) = 1)
      ↔ (l.val = 0 ∨ l.val = 256) := by decide +kernel
  have h2 : ∀ l : Fin 320, (IntOp.cmpi .slt (BitVec.ofNat 32 l.val) 256#32 = 1) ↔ l.val < 256 := by decide +kernel
  unfold Scalar.select
  simp only [h1, h2]

/-- The kept columns. -/
theorem kept_word {α : Type} (x y : α) : ∀ l : Fin 320,
    Scalar.select (IntOp.cmpi .slt (BitVec.ofNat 32 l.val) 257#32) x y = if l.val < 257 then x else y := by
  intro l
  have h2 : ∀ l : Fin 320, (IntOp.cmpi .slt (BitVec.ofNat 32 l.val) 257#32 = 1) ↔ l.val < 257 := by decide +kernel
  unfold Scalar.select
  simp only [h2]

/-- A row of the image from its step and its place in the step. -/
theorem row_word : ∀ (t : Fin 32) (r : Fin 16),
    IntOp.addi (IntOp.muli (BitVec.ofNat 32 t.val) 16#32) (BitVec.ofNat 32 r.val) = BitVec.ofNat 32 (16 * t.val + r.val) := by
  decide +kernel

end Cert.Spec
-- ==== Proof.Extended.lean ====
/- The ring sums and the loss over the extended reals. An image with an infinite entry has an infinite transform at every pair of
   frequencies, so its power over every ring is infinite, and the ring correlation is zero. -/
module

public import proofs.«01_k».proof.Proof.Words

@[expose] public section

noncomputable section

namespace Cert.Spec

open Idealize.ShloMosaic

/-! ## Infinite numbers -/

/-- An extended real that is no real number. -/
def Inf (x : EReal) : Prop := x = ⊤ ∨ x = ⊥

/-- What is not infinite is real. -/
theorem real_of_not_inf (x : EReal) (h : ¬Inf x) : x = ((x.toReal : ℝ) : EReal) :=
  (EReal.coe_toReal (fun e => h (.inl e)) (fun e => h (.inr e))).symm

/-- Infinity is kept by adding, -/
theorem inf_add_left (x y : EReal) (h : Inf x) : Inf (x + y) := by
  rcases h with rfl | rfl
  · induction y with
    | bot => exact .inr (EReal.add_bot _)
    | coe r => exact .inl (EReal.top_add_coe r)
    | top => exact .inl rfl
  · exact .inr (EReal.bot_add _)
/-- from either side, -/
theorem inf_add_right (x y : EReal) (h : Inf y) : Inf (x + y) := by
  rw [add_comm]; exact inf_add_left y x h
/-- by changing the sign, -/
theorem inf_neg (x : EReal) (h : Inf x) : Inf (-x) := by
  rcases h with rfl | rfl
  · exact .inr EReal.neg_top
  · exact .inl EReal.neg_bot
/-- by subtracting, -/
theorem inf_sub_left (x y : EReal) (h : Inf x) : Inf (x - y) := by
  rw [sub_eq_add_neg]; exact inf_add_left _ _ h
/-- from either side, -/
theorem inf_sub_right (x y : EReal) (h : Inf y) : Inf (x - y) := by
  rw [sub_eq_add_neg]; exact inf_add_right _ _ (inf_neg _ h)
/-- by multiplying by a real number other than zero, -/
theorem inf_mul (x : EReal) (c : ℝ) (hc : c ≠ 0) (h : Inf x) : Inf (x * (c : EReal)) := by
  rcases lt_or_gt_of_ne hc with h0 | h0
  · rcases h with rfl | rfl
    · exact .inr (EReal.top_mul_coe_of_neg h0)
    · exact .inl (EReal.bot_mul_coe_of_neg h0)
  · rcases h with rfl | rfl
    · exact .inl (EReal.top_mul_coe_of_pos h0)
    · exact .inr (EReal.bot_mul_coe_of_pos h0)
/-- and by dividing by one. -/
theorem inf_div (x : EReal) (c : ℝ) (hc : c ≠ 0) (h : Inf x) : Inf (Ideal.div x (c : EReal)) := by
  rw [Ideal.div_coe hc]; exact inf_mul _ _ (one_div_ne_zero hc) h

/-- A sum with an infinite term is infinite. -/
theorem inf_sum {ι : Type} [Fintype ι] (f : ι → EReal) (i : ι) (h : Inf (f i)) : Inf (∑ j, f j) := by
  classical
  rw [← Finset.add_sum_erase Finset.univ f (Finset.mem_univ i)]
  exact inf_add_left _ _ h

/-- A sum of products is infinite as soon as one term is an infinite number times a real one other than zero. -/
theorem inf_dot {ι : Type} [Fintype ι] (A B : ι → EReal) (i : ι) (g : ℝ) (hA : Inf (A i)) (hB : B i = ((g : ℝ) : EReal)) (hg : g ≠ 0) :
    Inf (∑ j, A j * B j) :=
  inf_sum _ i (by rw [hB]; exact inf_mul _ g hg hA)

/-- The same with the factors exchanged. -/
theorem inf_dot_right {ι : Type} [Fintype ι] (A B : ι → EReal) (i : ι) (g : ℝ) (hA : A i = ((g : ℝ) : EReal)) (hB : Inf (B i)) (hg : g ≠ 0) :
    Inf (∑ j, A j * B j) :=
  inf_sum _ i (by rw [hA, mul_comm]; exact inf_mul _ g hg hB)

/-- A square is not negative. -/
theorem sq_nonneg (x : EReal) : 0 ≤ x * x := by
  induction x with
  | bot => simp
  | coe r => rw [← EReal.coe_mul]; exact_mod_cast mul_self_nonneg r
  | top => simp

/-- The square of an infinite number. -/
theorem sq_inf (x : EReal) (h : Inf x) : x * x = ⊤ := by
  rcases h with rfl | rfl <;> simp

/-- A power is not negative, -/
theorem power_nonneg (x y : EReal) : 0 ≤ x * x + y * y := add_nonneg (sq_nonneg x) (sq_nonneg y)

/-- and infinite when one of its parts is. -/
theorem power_top (x y : EReal) (h : Inf x ∨ Inf y) : x * x + y * y = ⊤ := by
  rcases h with h | h
  · rw [sq_inf x h, ← top_le_iff]; exact le_add_of_nonneg_right (sq_nonneg y)
  · rw [sq_inf y h, ← top_le_iff]; exact le_add_of_nonneg_left (sq_nonneg x)

/-- A sum of non-negative terms, one of them infinite. -/
theorem sum_top {ι : Type} [Fintype ι] (f : ι → EReal) (hf : ∀ i, 0 ≤ f i) (i : ι) (h : f i = ⊤) : ∑ j, f j = ⊤ := by
  rw [← top_le_iff, ← h]
  exact Finset.single_le_sum (fun j _ => hf j) (Finset.mem_univ i)

/-- A cosine and a sine of the same angle do not vanish together. -/
theorem C_or_S (k h : ℕ) : C k h ≠ 0 ∨ S k h ≠ 0 := by
  by_contra hn
  push Not at hn
  have e := Real.cos_sq_add_sin_sq (2 * Real.pi * ((k * h : ℕ) : ℝ) / 512)
  have hC : Real.cos (2 * Real.pi * ((k * h : ℕ) : ℝ) / 512) = 0 := hn.1
  have hS : Real.sin (2 * Real.pi * ((k * h : ℕ) : ℝ) / 512) = 0 := hn.2
  rw [hC, hS] at e
  norm_num at e

/-! ## Rings -/

/-- Every ring up to 256 holds the pair of its own number and zero. -/
theorem ring_self (a : ℕ) (ha : a ≤ 256) : ring a 0 = BitVec.ofNat 32 a := by
  have hf : freq a * freq a + freq 0 * freq 0 = (a : ℝ) * (a : ℝ) := by
    have h0 : freq 0 = 0 := by rw [freq, if_pos (by omega)]; norm_num
    rw [h0, mul_zero, add_zero]
    rcases Nat.lt_or_ge a 256 with h | h
    · rw [freq, if_pos h]
    · obtain rfl : a = 256 := by omega
      rw [freq, if_neg (by omega)]; norm_num
  rw [ring, hf, Ideal.sqrt_coe, if_neg (not_lt.mpr (mul_self_nonneg _)), Real.sqrt_mul_self (Nat.cast_nonneg a)]
  have hr : Ideal.roundHalfEven (a : ℝ) = (a : ℤ) := by
    unfold Ideal.roundHalfEven
    rw [Int.floor_natCast]
    simp
  show Ideal.fptosi 32 ((Ideal.roundHalfEven (a : ℝ) : ℝ) : EReal) = _
  rw [hr]
  have ht : Ideal.toIntClamped (-(2 ^ (32 - 1) : Nat)) ((2 ^ (32 - 1) : Nat) - 1) ((((a : ℤ) : ℝ)) : EReal) = (a : ℤ) := by
    show max _ (min _ (if (0 : ℝ) ≤ ((a : ℤ) : ℝ) then ⌊((a : ℤ) : ℝ)⌋ else ⌈((a : ℤ) : ℝ)⌉)) = (a : ℤ)
    rw [Int.floor_intCast, Int.ceil_intCast, ite_self]
    omega
  unfold Ideal.fptosi
  rw [ht, BitVec.ofInt_natCast]

/-- The sum of a quantity over a ring, -/
def ringE (a : ℕ) (P : Fin 512 → Fin 512 → EReal) : EReal :=
  ∑ k : Fin 512, ∑ l : Fin 512, if ring k.val l.val = BitVec.ofNat 32 a then P k l else 0

/-- and its weighted sum over the half plane. -/
def halfE (a : ℕ) (P : Fin 512 → Fin 320 → EReal) : EReal :=
  ∑ k : Fin 512, ∑ l : Fin 320,
    (if l.val < 257 ∧ ring k.val l.val = BitVec.ofNat 32 a then ((weight l.val : ℝ) : EReal) else 0) * P k l

/-- The sum of a real quantity, -/
theorem ringE_real (a : ℕ) (P : Fin 512 → Fin 512 → EReal) (Q : ℕ → ℕ → ℝ) (h : ∀ k l, P k l = ((Q k.val l.val : ℝ) : EReal)) :
    ringE a P = ((ringSum a Q : ℝ) : EReal) := by
  rw [ringE, ringSum, coe_sum]
  refine Finset.sum_congr rfl fun k _ => ?_
  rw [coe_sum]
  refine Finset.sum_congr rfl fun l _ => ?_
  rw [h]
  split <;> simp

/-- and the weighted sum of an even one: they are the same. -/
theorem halfE_real (a : ℕ) (P : Fin 512 → Fin 320 → EReal) (Q : ℕ → ℕ → ℝ)
    (h : ∀ (k : Fin 512) (l : Fin 320), l.val < 257 → P k l = ((Q k.val l.val : ℝ) : EReal))
    (hQ : ∀ k l : Fin 512, Q (neg k) (neg l) = Q k l) : halfE a P = ((ringSum a Q : ℝ) : EReal) := by
  rw [← halfSum_eq a Q hQ, halfE, halfSum, coe_sum]
  refine Finset.sum_congr rfl fun k _ => ?_
  rw [coe_sum]
  refine Finset.sum_congr rfl fun l _ => ?_
  by_cases hl : l.val < 257
  · rw [h k l hl]
    split
    · exact (EReal.coe_mul _ _).symm
    · simp
  · simp [hl]

/-- The sum of an infinite quantity, -/
theorem ringE_top (a : ℕ) (ha : a ≤ 256) (P : Fin 512 → Fin 512 → EReal) (h : ∀ k l, P k l = ⊤) : ringE a P = ⊤ := by
  have h0 : ∀ k l : Fin 512, 0 ≤ (if ring k.val l.val = BitVec.ofNat 32 a then P k l else 0) := fun k l => by
    split
    · rw [h]; exact le_top
    · exact le_rfl
  refine sum_top _ (fun k => Finset.sum_nonneg fun l _ => h0 k l) ⟨a, by omega⟩ (sum_top _ (fun l => h0 _ l) 0 ?_)
  exact (if_pos (ring_self a ha)).trans (h _ _)

/-- A weight is not negative. -/
theorem weight_nonneg (l : ℕ) : 0 ≤ weight l := by
  unfold weight; split <;> [norm_num; (split <;> norm_num)]

/-- and the weighted sum of one. -/
theorem halfE_top (a : ℕ) (ha : a ≤ 256) (P : Fin 512 → Fin 320 → EReal) (h0 : ∀ k l, 0 ≤ P k l)
    (h : ∀ (k : Fin 512) (l : Fin 320), l.val < 257 → P k l = ⊤) : halfE a P = ⊤ := by
  have hn : ∀ (k : Fin 512) (l : Fin 320),
      0 ≤ (if l.val < 257 ∧ ring k.val l.val = BitVec.ofNat 32 a then ((weight l.val : ℝ) : EReal) else 0) * P k l := fun k l => by
    refine mul_nonneg ?_ (h0 k l)
    split
    · exact_mod_cast weight_nonneg l.val
    · exact le_rfl
  refine sum_top _ (fun k => Finset.sum_nonneg fun l _ => hn k l) ⟨a, by omega⟩ (sum_top _ (fun l => hn _ l) 0 ?_)
  rw [if_pos ⟨by decide, ring_self a ha⟩, h _ _ (by decide)]
  show ((weight 0 : ℝ) : EReal) * ⊤ = ⊤
  rw [weight, if_pos (.inl rfl)]
  simp

/-- A sum over a ring of a quantity that vanishes there, -/
theorem ringE_zero (a : ℕ) (P : Fin 512 → Fin 512 → EReal)
    (h : ∀ k l : Fin 512, ring k.val l.val = BitVec.ofNat 32 a → P k l = 0) : ringE a P = 0 :=
  Finset.sum_eq_zero fun k _ => Finset.sum_eq_zero fun l _ => by
    split
    · rename_i e; exact h k l e
    · rfl

/-- and the weighted sum. -/
theorem halfE_zero (a : ℕ) (P : Fin 512 → Fin 320 → EReal)
    (h : ∀ (k : Fin 512) (l : Fin 320), l.val < 257 → ring k.val l.val = BitVec.ofNat 32 a → P k l = 0) : halfE a P = 0 :=
  Finset.sum_eq_zero fun k _ => Finset.sum_eq_zero fun l _ => by
    split
    · rename_i e; rw [h k l e.1 e.2, mul_zero]
    · rw [zero_mul]

/-! ## The power of a real image -/

/-- The power of a real image at a pair of frequencies. -/
def power (x : Fin 512 → Fin 512 → ℝ) (k l : ℕ) : ℝ := re x k l * re x k l + im x k l * im x k l

/-- The power is even. -/
theorem power_neg (x : Fin 512 → Fin 512 → ℝ) (k l : Fin 512) : power x (neg k) (neg l) = power x k l := prod_neg x x 1 k l

/-- A ring's power is not negative. -/
theorem ringSum_power_nonneg (a : ℕ) (x : Fin 512 → Fin 512 → ℝ) : 0 ≤ ringSum a (power x) :=
  Finset.sum_nonneg fun k _ => Finset.sum_nonneg fun l _ => by
    split
    · exact add_nonneg (mul_self_nonneg _) (mul_self_nonneg _)
    · exact le_rfl

/-- Where a ring's power is zero the transform vanishes on the ring. -/
theorem transform_zero (a : ℕ) (x : Fin 512 → Fin 512 → ℝ) (h : ringSum a (power x) = 0) (k l : Fin 512)
    (hr : ring k.val l.val = BitVec.ofNat 32 a) : re x k.val l.val = 0 ∧ im x k.val l.val = 0 := by
  have hn : ∀ k l : Fin 512, 0 ≤ (if ring k.val l.val = BitVec.ofNat 32 a then power x k.val l.val else 0) := fun k l => by
    split
    · exact add_nonneg (mul_self_nonneg _) (mul_self_nonneg _)
    · exact le_rfl
  have h1 := (Finset.sum_eq_zero_iff_of_nonneg (fun k _ => Finset.sum_nonneg fun l _ => hn k l)).mp h k (Finset.mem_univ k)
  have h2 := (Finset.sum_eq_zero_iff_of_nonneg (fun l _ => hn k l)).mp h1 l (Finset.mem_univ l)
  rw [if_pos hr, power] at h2
  have e1 := mul_self_nonneg (re x k.val l.val)
  have e2 := mul_self_nonneg (im x k.val l.val)
  exact ⟨mul_self_eq_zero.mp (by linarith), mul_self_eq_zero.mp (by linarith)⟩

/-! ## The loss -/

/-- The small number in the denominator, -/
theorem bits_eps : Ideal.ofBits .f32 0x322BCC77#32 = ((11258999 * (2 ^ 50)⁻¹ : ℝ) : EReal) := by
  simp [Ideal.ofBits, Ideal.ieee, -EReal.coe_mul]
/-- which is not zero. -/
theorem eps_ne : Ideal.ofBits .f32 0x322BCC77#32 ≠ 0 := by
  simp [Ideal.ofBits, Ideal.ieee]

/-- A ring's distance does not depend on the order of the two powers. -/
theorem ringTerm_comm (n y z : EReal) : ringTerm n y z = ringTerm n z y := by
  rw [ringTerm, ringTerm, mul_comm y z]

/-- A ring of infinite power is at distance one. -/
theorem ringTerm_top (n y z : EReal) (h : y * z = ⊤) : ringTerm n y z = 1 := by
  have hd : Ideal.div n (Ideal.sqrt ⊤ + Ideal.ofBits .f32 0x322BCC77#32) = 0 := by
    have e : Ideal.sqrt ⊤ + Ideal.ofBits .f32 0x322BCC77#32 = ⊤ := by
      rw [bits_eps]
      exact EReal.top_add_coe _
    rw [e]
    simp [Ideal.div]
  rw [ringTerm, h, hd, Ideal.ofBits_one_f32]
  simp

/-- A ring without power or correlation is at distance one. -/
theorem ringTerm_zero (y z : EReal) (h : y * z = 0) : ringTerm 0 y z = 1 := by
  have hd : Ideal.div 0 (Ideal.sqrt 0 + Ideal.ofBits .f32 0x322BCC77#32) = 0 := by
    have e : Ideal.sqrt (0 : EReal) = 0 := by
      rw [← EReal.coe_zero, Ideal.sqrt_coe]; simp
    rw [e, zero_add, Ideal.div, if_neg eps_ne, zero_mul]
  rw [ringTerm, h, hd, Ideal.ofBits_one_f32]
  simp

/-- A ring one of whose powers is infinite is at distance one, if the correlation vanishes with the other power. -/
theorem ringTerm_blank (n z : EReal) (hz : z = ⊤ ∨ ∃ s : ℝ, z = ((s : ℝ) : EReal) ∧ 0 ≤ s ∧ (s = 0 → n = 0)) : ringTerm n ⊤ z = 1 := by
  rcases hz with rfl | ⟨s, rfl, h0, hn⟩
  · exact ringTerm_top _ _ _ (by simp)
  · rcases h0.eq_or_lt with e | e
    · rw [hn e.symm]
      exact ringTerm_zero _ _ (by rw [← e]; simp)
    · exact ringTerm_top _ _ _ (EReal.top_mul_coe_of_pos e)

/-- The size of a real number. -/
theorem max_neg (r : ℝ) : max ((r : ℝ) : EReal) (-((r : ℝ) : EReal)) = ((|r| : ℝ) : EReal) := by
  rw [← EReal.coe_neg]
  rcases le_total 0 r with h | h
  · rw [abs_of_nonneg h, max_eq_left (EReal.coe_le_coe_iff.mpr (by linarith))]
  · rw [abs_of_nonpos h, max_eq_right (EReal.coe_le_coe_iff.mpr (by linarith))]

/-- An image with an infinite entry. -/
def HasInf (X : Fin 512 → Fin 512 → EReal) : Prop := ∃ h w, Inf (X h w)

/-- The real numbers of an image. -/
def reals (X : Fin 512 → Fin 512 → EReal) : Fin 512 → Fin 512 → ℝ := fun h w => (X h w).toReal

open Classical in
/-- A ring's squared distance from one for a pair of images: computed from the transforms, or one if an entry is infinite. -/
def pairTerm (X Y : Fin 512 → Fin 512 → EReal) (a : ℕ) : EReal :=
  if HasInf X ∨ HasInf Y then 1
  else ringTerm ((|ringSum a (prod (reals X) (reals Y) 0)| : ℝ) : EReal) ((ringSum a (power (reals X)) : ℝ) : EReal)
    ((ringSum a (power (reals Y)) : ℝ) : EReal)

/-- The mean over the rings 0 to 256 and the 32 pairs of images. -/
def loss (X Y : Fin 32 → Fin 512 → Fin 512 → EReal) : EReal :=
  (∑ a : Fin 257, ∑ b : Fin 32, pairTerm (X b) (Y b) a.val) * ((8224⁻¹ : ℝ) : EReal)

/-- Two arrays are the real and the imaginary part of an image's transform on the columns below `keep`: the transform of a real
    image, and something infinite at every place for an image with an infinite entry. -/
structure IsTransform (keep : ℕ) {n : ℕ} (X : Fin 512 → Fin 512 → EReal) (A A' : Fin 512 → Fin n → EReal) : Prop where
  real : ∀ x : Fin 512 → Fin 512 → ℝ, (∀ h w, X h w = ((x h w : ℝ) : EReal)) → ∀ (k : Fin 512) (l : Fin n), l.val < keep →
    A k l = ((re x k.val l.val : ℝ) : EReal) ∧ A' k l = ((im x k.val l.val : ℝ) : EReal)
  inf : HasInf X → ∀ (k : Fin 512) (l : Fin n), l.val < keep → Inf (A k l) ∨ Inf (A' k l)

/-- An image without infinite entries is real. -/
theorem reals_eq (X : Fin 512 → Fin 512 → EReal) (h : ¬HasInf X) (p q : Fin 512) : X p q = ((reals X p q : ℝ) : EReal) :=
  real_of_not_inf _ fun e => h ⟨p, q, e⟩

section Pair
variable (X Y : Fin 512 → Fin 512 → EReal) (a : ℕ) (ha : a ≤ 256)

section Half
variable (A A' B B' : Fin 512 → Fin 320 → EReal) (hA : IsTransform 257 X A A') (hB : IsTransform 257 Y B B')
include hA ha

/-- The half-plane power of an image with an infinite entry, -/
theorem half_top (h : HasInf X) : halfE a (fun k l => A k l * A k l + A' k l * A' k l) = ⊤ :=
  halfE_top a ha _ (fun k l => power_nonneg _ _) fun k l hl => power_top _ _ (hA.inf h k l hl)
omit ha in
/-- and of a real one. -/
theorem half_power (h : ¬HasInf X) : halfE a (fun k l => A k l * A k l + A' k l * A' k l) = ((ringSum a (power (reals X)) : ℝ) : EReal) :=
  halfE_real a _ _ (fun k l hl => by
    obtain ⟨e, e'⟩ := hA.real (reals X) (reals_eq X h) k l hl
    rw [e, e', ← EReal.coe_mul, ← EReal.coe_mul, ← EReal.coe_add]; rfl) (power_neg _)

include hB

omit ha in
/-- The half-plane correlation vanishes with the second power. -/
theorem half_corr_zero (h : ¬HasInf Y) (hz : ringSum a (power (reals Y)) = 0) : halfE a (fun k l => A k l * B k l + A' k l * B' k l) = 0 :=
  halfE_zero a _ fun k l hl hr => by
    obtain ⟨e, e'⟩ := hB.real (reals Y) (reals_eq Y h) k l hl
    obtain ⟨z, z'⟩ := transform_zero a (reals Y) hz k ⟨l.val, by omega⟩ hr
    dsimp only at z z'
    rw [e, e', z, z']; simp

/-- The ring's squared distance from half-plane sums. -/
theorem half_term (n : EReal) (hn : n = halfE a (fun k l => A k l * B k l + A' k l * B' k l)) :
    ringTerm (max n (-n)) (halfE a (fun k l => A k l * A k l + A' k l * A' k l)) (halfE a (fun k l => B k l * B k l + B' k l * B' k l))
      = pairTerm X Y a := by
  by_cases hX : HasInf X
  · rw [pairTerm, if_pos (.inl hX), half_top X a ha A A' hA hX]
    refine ringTerm_blank _ _ ?_
    by_cases hY : HasInf Y
    · exact .inl (half_top Y a ha B B' hB hY)
    · refine .inr ⟨_, half_power Y a B B' hB hY, ringSum_power_nonneg _ _, fun hz => ?_⟩
      rw [hn, half_corr_zero X Y a A A' B B' hA hB hY hz]; simp
  · by_cases hY : HasInf Y
    · rw [pairTerm, if_pos (.inr hY), half_top Y a ha B B' hB hY, ringTerm_comm]
      refine ringTerm_blank _ _ (.inr ⟨_, half_power X a A A' hA hX, ringSum_power_nonneg _ _, fun hz => ?_⟩)
      have e := half_corr_zero Y X a B B' A A' hB hA hX hz
      rw [hn, show (fun k l => A k l * B k l + A' k l * B' k l) = fun k l => B k l * A k l + B' k l * A' k l from
        funext fun k => funext fun l => by rw [mul_comm (A k l), mul_comm (A' k l)], e]
      simp
    · rw [pairTerm, if_neg (by rintro (h | h) <;> contradiction), half_power X a A A' hA hX, half_power Y a B B' hB hY, hn,
        halfE_real a _ (prod (reals X) (reals Y) 0) (fun k l hl => by
          obtain ⟨e, e'⟩ := hA.real (reals X) (reals_eq X hX) k l hl
          obtain ⟨f, f'⟩ := hB.real (reals Y) (reals_eq Y hY) k l hl
          rw [e, e', f, f', ← EReal.coe_mul, ← EReal.coe_mul, ← EReal.coe_add]; rfl) (prod_neg _ _ 0)]
      rw [max_neg]

end Half

section Full
variable (A A' B B' : Fin 512 → Fin 512 → EReal) (hA : IsTransform 512 X A A') (hB : IsTransform 512 Y B B')
include hA ha

/-- The power of an image with an infinite entry, -/
theorem full_top (h : HasInf X) : ringE a (fun k l => A k l * A k l + A' k l * A' k l) = ⊤ :=
  ringE_top a ha _ fun k l => power_top _ _ (hA.inf h k l l.isLt)
omit ha in
/-- and of a real one. -/
theorem full_power (h : ¬HasInf X) : ringE a (fun k l => A k l * A k l + A' k l * A' k l) = ((ringSum a (power (reals X)) : ℝ) : EReal) :=
  ringE_real a _ _ fun k l => by
    obtain ⟨e, e'⟩ := hA.real (reals X) (reals_eq X h) k l l.isLt
    rw [e, e', ← EReal.coe_mul, ← EReal.coe_mul, ← EReal.coe_add]; rfl

omit ha hA in
include hB in
/-- A correlation vanishes with the second power, -/
theorem full_corr_zero (h : ¬HasInf Y) (hz : ringSum a (power (reals Y)) = 0) : ringE a (fun k l => A k l * B k l + A' k l * B' k l) = 0 :=
  ringE_zero a _ fun k l hr => by
    obtain ⟨e, e'⟩ := hB.real (reals Y) (reals_eq Y h) k l l.isLt
    obtain ⟨z, z'⟩ := transform_zero a (reals Y) hz k l hr
    rw [e, e', z, z']; simp
omit ha hA in
include hB in
/-- and its imaginary part too. -/
theorem full_cross_zero (h : ¬HasInf Y) (hz : ringSum a (power (reals Y)) = 0) : ringE a (fun k l => A' k l * B k l - A k l * B' k l) = 0 :=
  ringE_zero a _ fun k l hr => by
    obtain ⟨e, e'⟩ := hB.real (reals Y) (reals_eq Y h) k l l.isLt
    obtain ⟨z, z'⟩ := transform_zero a (reals Y) hz k l hr
    rw [e, e', z, z']; simp

include hB
/-- The ring's squared distance from sums over the whole plane. -/
theorem full_term (n m : EReal) (hn : n = ringE a (fun k l => A k l * B k l + A' k l * B' k l))
    (hm : m = ringE a (fun k l => A' k l * B k l - A k l * B' k l)) :
    ringTerm (Ideal.sqrt (n * n + m * m)) (ringE a (fun k l => A k l * A k l + A' k l * A' k l))
      (ringE a (fun k l => B k l * B k l + B' k l * B' k l)) = pairTerm X Y a := by
  have s0 : Ideal.sqrt ((0 : EReal) * 0 + 0 * 0) = 0 := by
    rw [mul_zero, add_zero, ← EReal.coe_zero, Ideal.sqrt_coe]; simp
  by_cases hX : HasInf X
  · rw [pairTerm, if_pos (.inl hX), full_top X a ha A A' hA hX]
    refine ringTerm_blank _ _ ?_
    by_cases hY : HasInf Y
    · exact .inl (full_top Y a ha B B' hB hY)
    · refine .inr ⟨_, full_power Y a B B' hB hY, ringSum_power_nonneg _ _, fun hz => ?_⟩
      rw [hn, hm, full_corr_zero Y a A A' B B' hB hY hz, full_cross_zero Y a A A' B B' hB hY hz, s0]
  · by_cases hY : HasInf Y
    · rw [pairTerm, if_pos (.inr hY), full_top Y a ha B B' hB hY, ringTerm_comm]
      refine ringTerm_blank _ _ (.inr ⟨_, full_power X a A A' hA hX, ringSum_power_nonneg _ _, fun hz => ?_⟩)
      have h0 : ∀ k l : Fin 512, ring k.val l.val = BitVec.ofNat 32 a → A k l = 0 ∧ A' k l = 0 := fun k l hr => by
        obtain ⟨e, e'⟩ := hA.real (reals X) (reals_eq X hX) k l l.isLt
        obtain ⟨z, z'⟩ := transform_zero a (reals X) hz k l hr
        rw [e, e', z, z']; simp
      rw [hn, hm, ringE_zero a _ fun k l hr => by rw [(h0 k l hr).1, (h0 k l hr).2, zero_mul, zero_mul, add_zero],
        ringE_zero a _ fun k l hr => by rw [(h0 k l hr).1, (h0 k l hr).2, zero_mul, zero_mul, sub_zero], s0]
    · have en : n = ((ringSum a (prod (reals X) (reals Y) 0) : ℝ) : EReal) := hn.trans (ringE_real a _ _ fun k l => by
        obtain ⟨e, e'⟩ := hA.real (reals X) (reals_eq X hX) k l l.isLt
        obtain ⟨f, f'⟩ := hB.real (reals Y) (reals_eq Y hY) k l l.isLt
        rw [e, e', f, f', ← EReal.coe_mul, ← EReal.coe_mul, ← EReal.coe_add]; rfl)
      have em : m = ((0 : ℝ) : EReal) := hm.trans ((ringE_real a _ (cross (reals X) (reals Y)) fun k l => by
        obtain ⟨e, e'⟩ := hA.real (reals X) (reals_eq X hX) k l l.isLt
        obtain ⟨f, f'⟩ := hB.real (reals Y) (reals_eq Y hY) k l l.isLt
        rw [e, e', f, f', ← EReal.coe_mul, ← EReal.coe_mul, ← EReal.coe_sub]; rfl).trans
          (by rw [ringSum_odd a _ (cross_neg (reals X) (reals Y))]))
      rw [pairTerm, if_neg (by rintro (h | h) <;> contradiction), full_power X a A A' hA hX, full_power Y a B B' hB hY, en, em,
        ← EReal.coe_mul, ← EReal.coe_mul, ← EReal.coe_add, mul_zero, add_zero, Ideal.sqrt_coe, if_neg (not_lt.mpr (mul_self_nonneg _)),
        Real.sqrt_mul_self_eq_abs]

end Full
end Pair

end Cert.Spec
-- ==== Proof.KernelIdeal.TablesAt.lean ====
/- The kernel's tables at an entry, over the extended reals. -/
module

public import proofs.«01_k».proof.Proof.KernelIdeal.Tables
public import proofs.«01_k».proof.Proof.Extended

@[expose] public section

set_option maxRecDepth 16384

noncomputable section

namespace Cert.KernelIdeal.Tables

open Cert.KernelIdeal Cert.KernelIdeal.Gen
open Idealize.ShloMosaic Idealize.ShloMosaic.TcCoe
open Idealize.ShloMosaic.ValueIdx

/-- An angle of the full tables. -/
theorem angle_at (k h : Fin 512) : angle (F := Ideal) (ix2 k h) = ((2 * Real.pi * ((k.val * h.val % 512 : ℕ) : ℝ) / 512 : ℝ) : EReal) := by
  refine (Spec.angle_eq (IntOp.remsi _ (IntOp.muli (BitVec.ofNat 32 k.val) (BitVec.ofNat 32 h.val)) 512#32).toInt).trans ?_
  rw [Spec.rem_toInt _ _ _ k.isLt h.isLt, Int.cast_natCast]

/-- An angle of the half-plane tables. -/
theorem angleHalf_at (k : Fin 512) (l : Fin 320) :
    angleHalf (F := Ideal) (ix2 k l) = ((2 * Real.pi * ((k.val * l.val % 512 : ℕ) : ℝ) / 512 : ℝ) : EReal) := by
  refine (Spec.angle_eq (IntOp.remsi _ (IntOp.muli (BitVec.ofNat 32 k.val) (BitVec.ofNat 32 l.val)) 512#32).toInt).trans ?_
  rw [Spec.rem_toInt _ _ _ k.isLt (by have := l.isLt; omega), Int.cast_natCast]

/-- The cosine table. -/
theorem cosTab_at (k h : Fin 512) : cosTab (F := Ideal) (ix2 k h) = ((Spec.C k.val h.val / 512 : ℝ) : EReal) := by
  show Ideal.div (Ideal.cos (angle (F := Ideal) (ix2 k h))) (Ideal.ofBits .f32 0x44000000#32) = _
  rw [angle_at, Ideal.cos_coe, Spec.C_mod, Spec.bits_512, Spec.div_real _ _ (by norm_num)]
/-- The sine table. -/
theorem sinTab_at (k h : Fin 512) : sinTab (F := Ideal) (ix2 k h) = ((Spec.S k.val h.val / 512 : ℝ) : EReal) := by
  show Ideal.div (Ideal.sin (angle (F := Ideal) (ix2 k h))) (Ideal.ofBits .f32 0x44000000#32) = _
  rw [angle_at, Ideal.sin_coe, Spec.S_mod, Spec.bits_512, Spec.div_real _ _ (by norm_num)]

/-- The half-plane cosine table. -/
theorem cosHalf_at (k : Fin 512) (l : Fin 320) :
    cosHalf (F := Ideal) (ix2 k l) = ((if l.val < 257 then Spec.C k.val l.val / 512 else 0 : ℝ) : EReal) := by
  have e : Ideal.div (Ideal.cos (angleHalf (F := Ideal) (ix2 k l))) (Ideal.ofBits .f32 0x44000000#32) = ((Spec.C k.val l.val / 512 : ℝ) : EReal) := by
    rw [angleHalf_at, Ideal.cos_coe, Spec.C_mod, Spec.bits_512, Spec.div_real _ _ (by norm_num)]
  refine (Spec.kept_word (Ideal.div (Ideal.cos (angleHalf (F := Ideal) (ix2 k l))) (Ideal.ofBits .f32 0x44000000#32))
    (Ideal.ofBits .f32 0x00000000#32) l).trans ?_
  rw [e, Ideal.ofBits_zero_f32]
  split <;> simp
/-- The half-plane sine table. -/
theorem sinHalf_at (k : Fin 512) (l : Fin 320) :
    sinHalf (F := Ideal) (ix2 k l) = ((if l.val < 257 then -(Spec.S k.val l.val / 512) else 0 : ℝ) : EReal) := by
  have e : -(Ideal.div (Ideal.sin (angleHalf (F := Ideal) (ix2 k l))) (Ideal.ofBits .f32 0x44000000#32)) = ((-(Spec.S k.val l.val / 512) : ℝ) : EReal) := by
    rw [angleHalf_at, Ideal.sin_coe, Spec.S_mod, Spec.bits_512, Spec.div_real _ _ (by norm_num), EReal.coe_neg]
  refine (Spec.kept_word (-(Ideal.div (Ideal.sin (angleHalf (F := Ideal) (ix2 k l))) (Ideal.ofBits .f32 0x44000000#32)))
    (Ideal.ofBits .f32 0x00000000#32) l).trans ?_
  rw [e, Ideal.ofBits_zero_f32]
  split <;> simp

/-- The signed frequency of a row of the bin tables, -/
theorem rowFreq_at (t : Fin 32) (r : Fin 16) (s : Fin 8) (l : Fin 320) :
    freqTab (F := Ideal) rowTab (ix4 t r s l) = ((Spec.freq (16 * t.val + r.val) : ℝ) : EReal) := by
  have hr : rowTab (ix4 t r s l) = BitVec.ofNat 32 (16 * t.val + r.val) := Spec.row_word t r
  show (((Scalar.select (IntOp.cmpi .slt (rowTab (ix4 t r s l)) 256#32) (rowTab (ix4 t r s l)) (IntOp.subi (rowTab (ix4 t r s l)) 512#32)).toInt : ℝ) : EReal) = _
  rw [hr, Spec.freq_real _ (by have := t.isLt; have := r.isLt; omega)]
/-- and of a column. -/
theorem colFreq_at (t : Fin 32) (r : Fin 16) (s : Fin 8) (l : Fin 320) :
    freqTab (F := Ideal) colTab (ix4 t r s l) = ((Spec.freq l.val : ℝ) : EReal) :=
  congrArg (fun x : ℝ => (x : EReal)) (Spec.freq_real l.val (by have := l.isLt; omega))

/-- The rounded radius. -/
theorem radTab_at (t : Fin 32) (r : Fin 16) (s : Fin 8) (l : Fin 320) :
    radTab (F := Ideal) (ix4 t r s l) = Spec.ring (16 * t.val + r.val) l.val := by
  show Ideal.fptosi 32 (Ideal.liftRound Ideal.roundHalfEven (Ideal.sqrt
    (freqTab (F := Ideal) rowTab (ix4 t r s l) * freqTab (F := Ideal) rowTab (ix4 t r s l)
      + freqTab (F := Ideal) colTab (ix4 t r s l) * freqTab (F := Ideal) colTab (ix4 t r s l)))) = _
  rw [rowFreq_at, colFreq_at, ← EReal.coe_mul, ← EReal.coe_mul, ← EReal.coe_add]
  rfl

/-- A bin is a number up to 256 exactly at the kept columns of that ring. -/
theorem binTab_at (t : Fin 32) (r : Fin 16) (s : Fin 8) (l : Fin 320) (a : ℕ) (ha : a ≤ 256) :
    binTab (F := Ideal) (ix4 t r s l) = BitVec.ofNat 32 a ↔ l.val < 257 ∧ Spec.ring (16 * t.val + r.val) l.val = BitVec.ofNat 32 a := by
  rw [← radTab_at t r s l]
  exact Spec.bin_word l.val l.isLt (radTab (F := Ideal) (ix4 t r s l)) a ha

/-- A weight. -/
theorem weightTab_at (t : Fin 32) (r : Fin 16) (s : Fin 8) (l : Fin 320) :
    weightTab (F := Ideal) (ix4 t r s l) = ((Spec.weight l.val : ℝ) : EReal) := by
  refine (Spec.weight_word (Ideal.ofBits .f32 0x3F800000#32) (Ideal.ofBits .f32 0x40000000#32) (Ideal.ofBits .f32 0x00000000#32) l).trans ?_
  rw [Ideal.ofBits_one_f32, Spec.bits_two, Ideal.ofBits_zero_f32]
  unfold Spec.weight
  split
  · simp
  · split <;> simp

end Cert.KernelIdeal.Tables
-- ==== Proof.KernelIdeal.DftValue.lean ====
/- The kernel's half-plane transform of an image, over the extended reals. -/
module

public import proofs.«01_k».proof.Proof.KernelIdeal.DftArr
public import proofs.«01_k».proof.Proof.KernelIdeal.TablesAt
public import Idealize.ShloMosaic.Lib.MatmulPlain

@[expose] public section

set_option maxRecDepth 16384

noncomputable section

namespace Cert.KernelIdeal.Dft

open Cert.KernelIdeal Cert.KernelIdeal.Gen
open Idealize.ShloMosaic Idealize.ShloMosaic.TcCoe
open Idealize.ShloMosaic.ValueIdx

/-- An entry of a product of two matrices, from zero. -/
theorem matmul_sum {M K N : ℕ} {φ₁ φ₂ : FTy} (lhs : FVec Ideal (⟨2, ![M, K]⟩ : Shape) φ₁) (rhs : FVec Ideal (⟨2, ![K, N]⟩ : Shape) φ₂)
    (r : Fin M) (c : Fin N) : matmul (DotDims.plain M K N) none lhs rhs (constant (⟨2, ![M, N]⟩ : Shape) .f32 0x00000000#32) (ix2 r c)
      = ∑ k : Fin K, (lhs (ix2 r k) * rhs (ix2 k c) : EReal) := by
  refine (Ideal.matmul_plain_apply none lhs rhs _ r c).trans ?_
  show Ideal.ofBits .f32 0x00000000#32 + _ = _
  rw [Ideal.ofBits_zero_f32, zero_add]

/-- A product of two real matrices, from zero, is real. -/
theorem matmul_real {M K N : ℕ} {φ₁ φ₂ : FTy} (lhs : FVec Ideal (⟨2, ![M, K]⟩ : Shape) φ₁) (rhs : FVec Ideal (⟨2, ![K, N]⟩ : Shape) φ₂)
    (r : Fin M) (c : Fin N) (f g : Fin K → ℝ) (hf : ∀ k, lhs (ix2 r k) = ((f k : ℝ) : EReal)) (hg : ∀ k, rhs (ix2 k c) = ((g k : ℝ) : EReal)) :
    matmul (DotDims.plain M K N) none lhs rhs (constant (⟨2, ![M, N]⟩ : Shape) .f32 0x00000000#32) (ix2 r c) = ((∑ k : Fin K, f k * g k : ℝ) : EReal) := by
  rw [matmul_sum, Spec.coe_sum]
  exact Finset.sum_congr rfl fun k _ => by rw [hf, hg, EReal.coe_mul]

/-- The half-plane cosine table as the first pass reads it, -/
def chOp : Vec Ideal S512x320 .bf16 := truncf .bf16 (Tables.cosHalf (F := Ideal)) bitsLt_bf16_f32
/-- the negated half-plane sine table, -/
def shOp : Vec Ideal S512x320 .bf16 := truncf .bf16 (Tables.sinHalf (F := Ideal)) bitsLt_bf16_f32
/-- the cosine table of the second pass, -/
def cOp : Vec Ideal S512x512 .bf16 := truncf .bf16 (Tables.cosTab (F := Ideal)) bitsLt_bf16_f32
/-- its sine table -/
def sOp : Vec Ideal S512x512 .bf16 := truncf .bf16 (Tables.sinTab (F := Ideal)) bitsLt_bf16_f32
/-- and the difference of the two. -/
def cmsOp : Vec Ideal S512x512 .bf16 := truncf .bf16 (subf (Tables.cosTab (F := Ideal)) Tables.sinTab) bitsLt_bf16_f32

/-- An entry of the half-plane cosine table, -/
theorem chOp_at (w : Fin 512) (l : Fin 320) : chOp (ix2 w l) = ((if l.val < 257 then Spec.C w.val l.val / 512 else 0 : ℝ) : EReal) := Tables.cosHalf_at w l
/-- of the negated half-plane sine table, -/
theorem shOp_at (w : Fin 512) (l : Fin 320) : shOp (ix2 w l) = ((if l.val < 257 then -(Spec.S w.val l.val / 512) else 0 : ℝ) : EReal) := Tables.sinHalf_at w l
/-- of the cosine table, -/
theorem cOp_at (k h : Fin 512) : cOp (ix2 k h) = ((Spec.C k.val h.val / 512 : ℝ) : EReal) := Tables.cosTab_at k h
/-- of the sine table -/
theorem sOp_at (k h : Fin 512) : sOp (ix2 k h) = ((Spec.S k.val h.val / 512 : ℝ) : EReal) := Tables.sinTab_at k h
/-- and of the difference table. -/
theorem cmsOp_at (k h : Fin 512) : cmsOp (ix2 k h) = ((Spec.C k.val h.val / 512 - Spec.S k.val h.val / 512 : ℝ) : EReal) := by
  show Tables.cosTab (F := Ideal) (ix2 k h) - Tables.sinTab (F := Ideal) (ix2 k h) = _
  rw [Tables.cosTab_at, Tables.sinTab_at, EReal.coe_sub]

section Image
variable (z : Vec Ideal S1x512x512 .f32) (x : Fin 512 → Fin 512 → ℝ) (hz : ∀ h w, z (ix3 0 h w) = ((x h w : ℝ) : EReal))
include hz

/-- The image as the first pass reads it. -/
theorem pay6_at (h w : Fin 512) : k0_pay6 z (ix2 h w) = ((x h w : ℝ) : EReal) := by
  refine (shapeCast_apply z shapeCasts_S1x512x512_S512x512 (ix2 h w) (ix3 0 h w) ?_).trans (hz h w)
  simp only [Shape.rowMajor_val_two, Shape.rowMajor_val_three]
  show (0 * 512 + h.val) * 512 + w.val = h.val * 512 + w.val
  omega

/-- The rows' cosine transform, -/
theorem rowCos_at (h : Fin 512) (l : Fin 320) :
    k0_pay7 chOp z (ix2 h l) = ((if l.val < 257 then Spec.xc x h l.val / 512 else 0 : ℝ) : EReal) := by
  refine (matmul_real (k0_pay6 z) (k0_pay1 chOp) h l (fun w => x h w) (fun w => if l.val < 257 then Spec.C w.val l.val / 512 else 0)
    (pay6_at z x hz h) (fun w => ?_)).trans ?_
  · exact (congrFun (shapeCast_self chOp _) (ix2 w l)).trans (chOp_at w l)
  · congr 1
    split
    · simp only [Spec.xc, Finset.sum_div, mul_div_assoc]
    · simp
/-- and their negated sine transform. -/
theorem rowSin_at (h : Fin 512) (l : Fin 320) :
    k0_pay8 shOp z (ix2 h l) = ((if l.val < 257 then -(Spec.xs x h l.val / 512) else 0 : ℝ) : EReal) := by
  refine (matmul_real (k0_pay6 z) (k0_pay2 shOp) h l (fun w => x h w) (fun w => if l.val < 257 then -(Spec.S w.val l.val / 512) else 0)
    (pay6_at z x hz h) (fun w => ?_)).trans ?_
  · exact (congrFun (shapeCast_self shOp _) (ix2 w l)).trans (shOp_at w l)
  · congr 1
    split
    · simp only [Spec.xs, Finset.sum_div, mul_div_assoc, mul_neg, Finset.sum_neg_distrib]
    · simp

variable (k : Fin 512) (l : Fin 320)

/-- The cosine part of the second pass, -/
theorem colCos_at : k0_pay9 chOp cOp z (ix2 k l)
    = ((∑ h : Fin 512, Spec.C k.val h.val / 512 * (if l.val < 257 then Spec.xc x h l.val / 512 else 0) : ℝ) : EReal) :=
  matmul_real (k0_pay3 cOp) (k0_pay7 chOp z) k l _ _
    (fun h => (congrFun (shapeCast_self cOp _) (ix2 k h)).trans (cOp_at k h)) (fun h => rowCos_at z x hz h l)
/-- its sine part, -/
theorem colSin_at : k0_pay10 shOp sOp z (ix2 k l)
    = ((∑ h : Fin 512, Spec.S k.val h.val / 512 * (if l.val < 257 then -(Spec.xs x h l.val / 512) else 0) : ℝ) : EReal) :=
  matmul_real (k0_pay4 sOp) (k0_pay8 shOp z) k l _ _
    (fun h => (congrFun (shapeCast_self sOp _) (ix2 k h)).trans (sOp_at k h)) (fun h => rowSin_at z x hz h l)

/-- The real part. -/
theorem halfRe_at : halfRe chOp shOp cOp sOp z (ix2 k l) = ((if l.val < 257 then Spec.re x k.val l.val else 0 : ℝ) : EReal) := by
  show k0_pay9 chOp cOp z (ix2 k l) + k0_pay10 shOp sOp z (ix2 k l) = _
  rw [colCos_at z x hz, colSin_at z x hz, ← EReal.coe_add]
  congr 1
  split
  · rw [Spec.re, sub_div, Finset.sum_div, Finset.sum_div, ← Finset.sum_add_distrib, ← Finset.sum_sub_distrib]
    exact Finset.sum_congr rfl fun h _ => by ring
  · simp

/-- The product of the difference table and the sum of the two row transforms. -/
theorem colMix_at : matmul dot_S512x512_S512x320_S512x320_1_0_0_1_n_n none (k0_pay5 cmsOp)
      (addf (k0_pay7 chOp z) (k0_pay8 shOp z)) (constant S512x320 .f32 0x00000000#32) (ix2 k l)
    = ((∑ h : Fin 512, (Spec.C k.val h.val / 512 - Spec.S k.val h.val / 512)
        * ((if l.val < 257 then Spec.xc x h l.val / 512 else 0) + (if l.val < 257 then -(Spec.xs x h l.val / 512) else 0)) : ℝ) : EReal) :=
  matmul_real (k0_pay5 cmsOp) (addf (k0_pay7 chOp z) (k0_pay8 shOp z)) k l _ _
    (fun h => (congrFun (shapeCast_self cmsOp _) (ix2 k h)).trans (cmsOp_at k h)) (fun h => by
      show k0_pay7 chOp z (ix2 h l) + k0_pay8 shOp z (ix2 h l) = _
      rw [rowCos_at z x hz, rowSin_at z x hz, ← EReal.coe_add])

/-- The imaginary part: three products in place of four. -/
theorem halfIm_at : halfIm chOp shOp cOp sOp cmsOp z (ix2 k l) = ((if l.val < 257 then Spec.im x k.val l.val else 0 : ℝ) : EReal) := by
  show matmul dot_S512x512_S512x320_S512x320_1_0_0_1_n_n none (k0_pay5 cmsOp)
      (addf (k0_pay7 chOp z) (k0_pay8 shOp z)) (constant S512x320 .f32 0x00000000#32) (ix2 k l)
    - k0_pay9 chOp cOp z (ix2 k l) + k0_pay10 shOp sOp z (ix2 k l) = _
  rw [colMix_at z x hz, colCos_at z x hz, colSin_at z x hz, ← EReal.coe_sub, ← EReal.coe_add]
  congr 1
  split
  · rw [Spec.im, neg_div, add_div, Finset.sum_div, Finset.sum_div, ← Finset.sum_sub_distrib, ← Finset.sum_add_distrib,
      ← Finset.sum_add_distrib, ← Finset.sum_neg_distrib]
    exact Finset.sum_congr rfl fun h _ => by ring
  · simp

end Image

/-! ## An image with an infinite entry -/

section Infinite
variable (z : Vec Ideal S1x512x512 .f32)

/-- The image as the first pass reads it. -/
theorem read_at (h w : Fin 512) : k0_pay6 z (ix2 h w) = z (ix3 0 h w) := by
  refine shapeCast_apply z shapeCasts_S1x512x512_S512x512 (ix2 h w) (ix3 0 h w) ?_
  simp only [Shape.rowMajor_val_two, Shape.rowMajor_val_three]
  show (0 * 512 + h.val) * 512 + w.val = h.val * 512 + w.val
  omega

/-- A row with an infinite entry has an infinite cosine or sine transform at every kept column. -/
theorem row_inf (h w : Fin 512) (hi : Spec.Inf (z (ix3 0 h w))) (l : Fin 320) (hl : l.val < 257) :
    Spec.Inf (k0_pay7 chOp z (ix2 h l)) ∨ Spec.Inf (k0_pay8 shOp z (ix2 h l)) := by
  rcases Spec.C_or_S w.val l.val with e | e
  · refine .inl ?_
    rw [show k0_pay7 chOp z (ix2 h l) = _ from matmul_sum (k0_pay6 z) (k0_pay1 chOp) h l]
    exact Spec.inf_dot _ _ w (Spec.C w.val l.val / 512) (by rw [read_at]; exact hi)
      ((congrFun (shapeCast_self chOp _) (ix2 w l)).trans ((chOp_at w l).trans (by rw [if_pos hl]))) (div_ne_zero e (by norm_num))
  · refine .inr ?_
    rw [show k0_pay8 shOp z (ix2 h l) = _ from matmul_sum (k0_pay6 z) (k0_pay2 shOp) h l]
    exact Spec.inf_dot _ _ w (-(Spec.S w.val l.val / 512)) (by rw [read_at]; exact hi)
      ((congrFun (shapeCast_self shOp _) (ix2 w l)).trans ((shOp_at w l).trans (by rw [if_pos hl])))
      (neg_ne_zero.mpr (div_ne_zero e (by norm_num)))

variable (h : Fin 512) (k : Fin 512) (l : Fin 320)

/-- An infinite row cosine makes the real part infinite where the column cosine is not zero, -/
theorem re_of_cos (hr : Spec.Inf (k0_pay7 chOp z (ix2 h l))) (e : Spec.C k.val h.val ≠ 0) : Spec.Inf (halfRe chOp shOp cOp sOp z (ix2 k l)) := by
  show Spec.Inf (k0_pay9 chOp cOp z (ix2 k l) + k0_pay10 shOp sOp z (ix2 k l))
  refine Spec.inf_add_left _ _ ?_
  rw [show k0_pay9 chOp cOp z (ix2 k l) = _ from matmul_sum (k0_pay3 cOp) (k0_pay7 chOp z) k l]
  exact Spec.inf_dot_right _ _ h _ ((congrFun (shapeCast_self cOp _) (ix2 k h)).trans (cOp_at k h)) hr (div_ne_zero e (by norm_num))
/-- an infinite row sine where the column sine is not zero, -/
theorem re_of_sin (hr : Spec.Inf (k0_pay8 shOp z (ix2 h l))) (e : Spec.S k.val h.val ≠ 0) : Spec.Inf (halfRe chOp shOp cOp sOp z (ix2 k l)) := by
  show Spec.Inf (k0_pay9 chOp cOp z (ix2 k l) + k0_pay10 shOp sOp z (ix2 k l))
  refine Spec.inf_add_right _ _ ?_
  rw [show k0_pay10 shOp sOp z (ix2 k l) = _ from matmul_sum (k0_pay4 sOp) (k0_pay8 shOp z) k l]
  exact Spec.inf_dot_right _ _ h _ ((congrFun (shapeCast_self sOp _) (ix2 k h)).trans (sOp_at k h)) hr (div_ne_zero e (by norm_num))
/-- and either makes the imaginary part infinite where the two column factors differ. -/
theorem im_of_mix (hr : Spec.Inf (k0_pay7 chOp z (ix2 h l)) ∨ Spec.Inf (k0_pay8 shOp z (ix2 h l)))
    (e : Spec.C k.val h.val / 512 - Spec.S k.val h.val / 512 ≠ 0) : Spec.Inf (halfIm chOp shOp cOp sOp cmsOp z (ix2 k l)) := by
  show Spec.Inf (matmul dot_S512x512_S512x320_S512x320_1_0_0_1_n_n none (k0_pay5 cmsOp)
      (addf (k0_pay7 chOp z) (k0_pay8 shOp z)) (constant S512x320 .f32 0x00000000#32) (ix2 k l)
    - k0_pay9 chOp cOp z (ix2 k l) + k0_pay10 shOp sOp z (ix2 k l))
  refine Spec.inf_add_left _ _ (Spec.inf_sub_left _ _ ?_)
  rw [show matmul dot_S512x512_S512x320_S512x320_1_0_0_1_n_n none (k0_pay5 cmsOp)
      (addf (k0_pay7 chOp z) (k0_pay8 shOp z)) (constant S512x320 .f32 0x00000000#32) (ix2 k l) = _ from
    matmul_sum (k0_pay5 cmsOp) (addf (k0_pay7 chOp z) (k0_pay8 shOp z)) k l]
  refine Spec.inf_dot_right _ _ h _ ((congrFun (shapeCast_self cmsOp _) (ix2 k h)).trans (cmsOp_at k h)) ?_ e
  rcases hr with hr | hr
  · exact Spec.inf_add_left _ _ hr
  · exact Spec.inf_add_right _ _ hr

end Infinite

/-- The real or the imaginary part is infinite at every pair of frequencies. -/
theorem transform_inf (z : Vec Ideal S1x512x512 .f32) (h w : Fin 512) (hi : Spec.Inf (z (ix3 0 h w))) (k : Fin 512) (l : Fin 320)
    (hl : l.val < 257) : Spec.Inf (halfRe chOp shOp cOp sOp z (ix2 k l)) ∨ Spec.Inf (halfIm chOp shOp cOp sOp cmsOp z (ix2 k l)) := by
  have hr := row_inf z h w hi l hl
  by_cases hC : Spec.C k.val h.val = 0
  · have hS : Spec.S k.val h.val ≠ 0 := (Spec.C_or_S k.val h.val).resolve_left (fun e => e hC)
    exact .inr (im_of_mix z h k l hr (by rw [hC, zero_div, zero_sub]; exact neg_ne_zero.mpr (div_ne_zero hS (by norm_num))))
  · rcases hr with hr | hr
    · exact .inl (re_of_cos z h k l hr hC)
    · by_cases hS : Spec.S k.val h.val = 0
      · exact .inr (im_of_mix z h k l (.inr hr) (by rw [hS, zero_div, sub_zero]; exact div_ne_zero hC (by norm_num)))
      · exact .inl (re_of_sin z h k l hr hS)

/-- The kernel's half-plane transform of an image. -/
theorem transform (z : Vec Ideal S1x512x512 .f32) : Spec.IsTransform 257 (fun h w => z (ix3 0 h w))
    (fun k l => halfRe chOp shOp cOp sOp z (ix2 k l)) (fun k l => halfIm chOp shOp cOp sOp cmsOp z (ix2 k l)) where
  real x hx k l hl := ⟨by rw [halfRe_at z x hx, if_pos hl], by rw [halfIm_at z x hx, if_pos hl]⟩
  inf := fun ⟨h, w, hi⟩ k l hl => transform_inf z h w hi k l hl

end Cert.KernelIdeal.Dft
-- ==== Proof.KernelIdeal.KernelValue.lean ====
/- The kernel's result on two batches of images: the mean over all rings and images of the squared distance of the ring correlation
   from one. -/
module

public import proofs.«01_k».proof.Proof.KernelIdeal.BinsValue
public import proofs.«01_k».proof.Proof.KernelIdeal.DftValue

@[expose] public section

set_option maxRecDepth 16384

noncomputable section

namespace Cert.KernelIdeal.Run

open Cert.KernelIdeal Cert.KernelIdeal.Gen
open Idealize.ShloMosaic Idealize.ShloMosaic.TcCoe
open Idealize.SL.Sem
open Idealize.ShloMosaic.ValueIdx
open Cert.KernelIdeal.Bins (lossOf rowPart rowOf colOf)

/-- A sum over the rows, step by step. -/
theorem sum_rows (g : Fin 512 → EReal) : ∑ t : Fin 32, ∑ r : Fin 16, g (rowOf t r) = ∑ k : Fin 512, g k := by
  rw [← Fintype.sum_prod_type' (f := fun (t : Fin 32) (r : Fin 16) => g (rowOf t r))]
  refine Fintype.sum_equiv (finProdFinEquiv (m := 32) (n := 16)) _ _ fun p => congrArg g (Fin.ext ?_)
  show 16 * p.1.val + p.2.val = p.2.val + 16 * p.1.val
  omega

/-- One image row's share of a ring sum. -/
theorem rowPart_at (P : Vec Ideal S3x32x512x320 .bf16) (a : Fin 264) (ha : a.val ≤ 256) (j : Fin 3) (b : Fin 32) (t : Fin 32) (r : Fin 16) :
    rowPart (Tables.binTab (F := Ideal)) (Tables.weightTab (F := Ideal)) P a j b t r
      = ∑ l : Fin 320, (if l.val < 257 ∧ Spec.ring (rowOf t r).val l.val = BitVec.ofNat 32 a.val then ((Spec.weight l.val : ℝ) : EReal) else 0)
          * P (ix4 j b (rowOf t r) l) := by
  unfold rowPart
  refine Finset.sum_congr rfl fun l _ => ?_
  rw [Tables.weightTab_at]
  simp only [Tables.binTab_at t r _ l a.val ha]

/-- A ring sum of the second call is the half-plane sum over the ring. -/
theorem rows_half (P : Vec Ideal S3x32x512x320 .bf16) (a : Fin 264) (ha : a.val ≤ 256) (j : Fin 3) (b : Fin 32) :
    ∑ t : Fin 32, ∑ r : Fin 16, rowPart (Tables.binTab (F := Ideal)) (Tables.weightTab (F := Ideal)) P a j b t r
      = Spec.halfE a.val (fun k l => P (ix4 j b k l)) := by
  refine Eq.trans ?_ (sum_rows fun k => ∑ l : Fin 320,
    (if l.val < 257 ∧ Spec.ring k.val l.val = BitVec.ofNat 32 a.val then ((Spec.weight l.val : ℝ) : EReal) else 0) * P (ix4 j b k l))
  exact Finset.sum_congr rfl fun t _ => Finset.sum_congr rfl fun r _ => rowPart_at P a ha j b t r

/-- The final reduction, ring by ring. -/
theorem lossOf_rings (Z : Fin 264 → Fin 3 → Fin 32 → EReal) (X Y : Fin 32 → Fin 512 → Fin 512 → EReal)
    (hZ : ∀ a : Fin 264, a.val ≤ 256 → ∀ b, Spec.ringTerm (max (Z a 0 b) (-(Z a 0 b))) (Z a 1 b) (Z a 2 b) = Spec.pairTerm (X b) (Y b) a.val) :
    lossOf Z = Spec.loss X Y := by
  unfold lossOf Spec.loss
  congr 1
  refine (Fin.sum_univ_add (a := 257) (b := 7) (fun a : Fin 264 => ∑ b : Fin 32,
    if a.val ≤ 256 then Spec.ringTerm (max (Z a 0 b) (-(Z a 0 b))) (Z a 1 b) (Z a 2 b) else 0)).trans ?_
  rw [Finset.sum_eq_zero (f := fun i : Fin 7 => _) (fun i _ => Finset.sum_eq_zero fun b _ => if_neg (by
    show ¬ 257 + i.val ≤ 256; omega)), add_zero]
  refine Finset.sum_congr rfl fun a _ => Finset.sum_congr rfl fun b _ => ?_
  have ha : (Fin.castAdd 7 a).val ≤ 256 := by have := a.isLt; show a.val ≤ 256; omega
  rw [if_pos ha]
  exact hZ _ ha b

/-- One image of a batch. -/
def imageOf (x : Vec Ideal S32x1x512x512 .f32) (b : Fin 32) (h w : Fin 512) : EReal := x (ix4 b 0 h w)

/-- A batch without its axis of extent one. -/
def flat (x : Vec Ideal S32x1x512x512 .f32) : Vec Ideal S32x512x512 .f32 := shapeCast S32x512x512 x shapeCasts_S32x1x512x512_S32x512x512

/-- An entry of it. -/
theorem flat_at (x : Vec Ideal S32x1x512x512 .f32) (b : Fin 32) (h w : Fin 512) : flat x (ix3 b h w) = imageOf x b h w := by
  refine shapeCast_apply x shapeCasts_S32x1x512x512_S32x512x512 (ix3 b h w) (ix4 b 0 h w) ?_
  simp only [Shape.rowMajor_val_three, Shape.rowMajor_val_four]
  show ((b.val * 1 + 0) * 512 + h.val) * 512 + w.val = (b.val * 512 + h.val) * 512 + w.val
  omega

/-- The real part of an image's half-plane transform -/
def reOf (x : Vec Ideal S32x1x512x512 .f32) (b : Fin 32) (k : Fin 512) (l : Fin 320) : EReal :=
  Dft.halfRe Dft.chOp Dft.shOp Dft.cOp Dft.sOp (Dft.imgOf (flat x) b) (ix2 k l)
/-- and the imaginary part. -/
def imOf (x : Vec Ideal S32x1x512x512 .f32) (b : Fin 32) (k : Fin 512) (l : Fin 320) : EReal :=
  Dft.halfIm Dft.chOp Dft.shOp Dft.cOp Dft.sOp Dft.cmsOp (Dft.imgOf (flat x) b) (ix2 k l)

/-- They are the image's transform on the columns of frequencies 0 to 256. -/
theorem transform (x : Vec Ideal S32x1x512x512 .f32) (b : Fin 32) : Spec.IsTransform 257 (imageOf x b) (reOf x b) (imOf x b) := by
  have e : (fun h w => Dft.imgOf (flat x) b (ix3 0 h w)) = imageOf x b := funext fun h => funext fun w => flat_at x b h w
  rw [← e]
  exact Dft.transform _

variable (m : Mem Ideal) (c : Dev nD)

/-- The products the first call leaves, from the transforms. -/
theorem prods_at (j : Fin 3) (b : Fin 32) (k : Fin 512) (l : Fin 320) :
    (prods m c : Vec Ideal S3x32x512x320 .bf16) (ix4 j b k l)
      = Dft.prodArr (flat (m ((c : Thread nD τ).loc main_arg0))) (flat (m ((c : Thread nD τ).loc main_arg1))) Dft.chOp Dft.shOp
          Dft.cOp Dft.sOp Dft.cmsOp (ix4 j b k l) := by
  unfold prods
  rw [Dft.arr_out]
  show Dft.prodArr (V1 m c main_v0) (V1 m c main_v1) (V1 m c main_v43) (V1 m c main_v52) (V1 m c main_v20) (V1 m c main_v21) (V1 m c main_v23)
    (ix4 j b k l) = _
  rw [Tables.main_v0_eq, Tables.main_v1_eq, Tables.main_v43_eq, Tables.main_v52_eq, Tables.main_v20_eq, Tables.main_v21_eq, Tables.main_v23_eq]
  rfl

/-- A ring sum the second call accumulates. -/
theorem acc_at (a : Fin 264) (ha : a.val ≤ 256) (j : Fin 3) (b : Fin 32) (h : 31 < cfg1.N) :
    (Bins.outsAt1 (before1 m) c 31 h).2 (ix2 a (colOf j b))
      = Spec.halfE a.val (fun k l => (prods m c : Vec Ideal S3x32x512x320 .bf16) (ix4 j b k l)) := by
  have e0 : before1 m c main_v83 = Tables.binTab (F := Ideal) :=
    (Function.update_of_ne (by decide) _ _).trans (Tables.main_v83_eq m c)
  have e1 : before1 m c main_v95 = Tables.weightTab (F := Ideal) :=
    (Function.update_of_ne (by decide) _ _).trans (Tables.main_v95_eq m c)
  have e2 : before1 m c main_v96 = prods m c := Function.update_self _ _ _
  rw [Bins.acc_apply, e0, e1, e2]
  exact rows_half (prods m c) a ha j b

/-- The kernel's result, for any two batches of images. -/
theorem loss_value (i : S1x1.Idx) : (loss m c : Vec Ideal S1x1 .f32) i
    = Spec.loss (imageOf (m ((c : Thread nD τ).loc main_arg0))) (imageOf (m ((c : Thread nD τ).loc main_arg1))) := by
  unfold loss
  rw [Bins.arr_out, Bins.out_last, Bins.loss_apply]
  refine lossOf_rings _ _ _ fun a ha b => ?_
  rw [acc_at m c a ha, acc_at m c a ha, acc_at m c a ha]
  simp only [prods_at]
  exact Spec.half_term _ _ a.val ha _ _ _ _ (transform _ b) (transform _ b) _ rfl

end Cert.KernelIdeal.Run
-- ==== Proof.ReferenceIdeal.RefDft.lean ====
/- The reference's transform of images, over the extended reals. -/
module

public import proofs.«01_k».proof.Proof.Gen.ReferenceIdeal.Read
public import proofs.«01_k».proof.Proof.Extended

@[expose] public section

set_option maxRecDepth 16384

noncomputable section

namespace Cert.ReferenceIdeal.Ref

open Cert.ReferenceIdeal Cert.ReferenceIdeal.Gen Cert.ReferenceIdeal.Read
open Idealize.ShloMosaic Idealize.ShloMosaic.TcCoe
open Idealize.ShloMosaic.ValueIdx

/-! ## The tables -/

/-- An angle. -/
theorem angle_at (k l : Fin 512) : val_main_v36 (F := Ideal) (ix2 k l) = ((2 * Real.pi * ((k.val * l.val : ℕ) : ℝ) / 512 : ℝ) : EReal) := by
  rw [val_main_v36_apply, val_main_v34_apply, val_main_v33_apply, val_main_v26_apply, val_main_v25_apply, val_main_v32_apply,
    val_main_v31_apply, val_main_v29_apply, val_main_v30_apply, val_main_v27_apply, val_main_v28_apply, val_main_v35_apply]
  refine (Spec.angle_eq (IntOp.muli (BitVec.ofNat 32 k.val) (BitVec.ofNat 32 l.val)).toInt).trans ?_
  rw [Spec.mul_toInt _ _ k.isLt l.isLt, Int.cast_natCast]
/-- The cosine table. -/
theorem cos_at (k l : Fin 512) : val_main_v37 (F := Ideal) (ix2 k l) = ((Spec.C k.val l.val : ℝ) : EReal) := by
  rw [val_main_v37_apply, angle_at]
  exact Ideal.cos_coe _
/-- The sine table. -/
theorem sin_at (k l : Fin 512) : val_main_v38 (F := Ideal) (ix2 k l) = ((Spec.S k.val l.val : ℝ) : EReal) := by
  rw [val_main_v38_apply, angle_at]
  exact Ideal.sin_coe _

/-- A frequency. -/
theorem freq_at (k : Fin 512) : val_main_v8 (F := Ideal) (ix1 k) = ((Spec.freq k.val : ℝ) : EReal) := by
  rw [val_main_v8_apply, val_main_v7_apply, val_main_v4_apply, val_main_v6_apply, val_main_v3_apply, val_main_v5_apply]
  exact congrArg (fun x : ℝ => (x : EReal)) (Spec.freq_real k.val k.isLt)

/-- The rounded radius. -/
theorem radius_at (k l : Fin 512) : val_main_v18 (F := Ideal) (ix2 k l) = Spec.ring k.val l.val := by
  have e1 : val_main_v13 (F := Ideal) (ix2 k l) = ((Spec.freq k.val : ℝ) : EReal) * ((Spec.freq k.val : ℝ) : EReal) := by
    rw [val_main_v13_apply, val_main_v11_apply, val_main_v9_apply, ← freq_at k]
    rfl
  have e2 : val_main_v14 (F := Ideal) (ix2 k l) = ((Spec.freq l.val : ℝ) : EReal) * ((Spec.freq l.val : ℝ) : EReal) := by
    rw [val_main_v14_apply, val_main_v12_apply, val_main_v10_apply, ← freq_at l]
    rfl
  rw [val_main_v18_apply, val_main_v17_apply, val_main_v16_apply, val_main_v15_apply, e1, e2]
  show Ideal.fptosi 32 (Ideal.liftRound Ideal.roundHalfEven (Ideal.sqrt
    (((Spec.freq k.val : ℝ) : EReal) * ((Spec.freq k.val : ℝ) : EReal) + ((Spec.freq l.val : ℝ) : EReal) * ((Spec.freq l.val : ℝ) : EReal)))) = _
  rw [← EReal.coe_mul, ← EReal.coe_mul, ← EReal.coe_add]
  rfl

/-- The ring of a pair of positions equals a number up to 256 exactly when the radius does. -/
theorem ring_at (k l : Fin 512) (a : ℕ) (ha : a ≤ 256) :
    val_main_v22 (F := Ideal) (ix2 k l) = BitVec.ofNat 32 a ↔ Spec.ring k.val l.val = BitVec.ofNat 32 a := by
  rw [val_main_v22_apply, val_main_v20_apply, val_main_v21_apply, val_main_v19_apply, radius_at]
  exact Spec.clip_sgt _ a ha

/-! ## The transform -/

section Image
variable (x0 : Vec Ideal S32x1x512x512 .f32) (b : Fin 32)

/-- Image `b` of a batch. -/
def imageOf (h w : Fin 512) : EReal := x0 (ix4 b 0 h w)

/-- The images. -/
theorem image_at (h w : Fin 512) : val_main_v0 (F := Ideal) x0 (ix3 b h w) = imageOf x0 b h w := by
  refine (shapeCast_apply x0 shapeCasts_S32x1x512x512_S32x512x512 (ix3 b h w) (ix4 b 0 h w) ?_).trans rfl
  simp only [Shape.rowMajor_val_three, Shape.rowMajor_val_four]
  show ((b.val * 1 + 0) * 512 + h.val) * 512 + w.val = (b.val * 512 + h.val) * 512 + w.val
  omega

/-- A sum of products, factor by factor. -/
theorem dot_congr (A B A' B' : Fin 512 → EReal) (hA : ∀ k, A k = A' k) (hB : ∀ k, B k = B' k) : ∑ k, A k * B k = ∑ k, A' k * B' k :=
  Finset.sum_congr rfl fun k _ => by rw [hA, hB]

/-- A sum of products of real numbers. -/
theorem dot_real (A : Fin 512 → EReal) (f g : Fin 512 → ℝ) (hA : ∀ k, A k = ((f k : ℝ) : EReal)) :
    ∑ k, A k * ((g k : ℝ) : EReal) = ((∑ k, f k * g k : ℝ) : EReal) := by
  rw [Spec.coe_sum]
  exact Finset.sum_congr rfl fun k _ => by rw [hA, EReal.coe_mul]

/-! ### The sums -/

/-- The rows' cosine transform, -/
theorem rowCos_sum (h l : Fin 512) : val_main_v39 (F := Ideal) x0 (ix3 b h l) = ∑ w : Fin 512, imageOf x0 b h w * ((Spec.C w.val l.val : ℝ) : EReal) :=
  (val_main_v39_apply x0 (ix3 b h l)).trans (dot_congr _ _ _ _
    (fun w => (congrArg (val_main_v0 (F := Ideal) x0) (funext fun a => by match a with | ⟨0, _⟩ => rfl | ⟨1, _⟩ => rfl | ⟨2, _⟩ => rfl)).trans (image_at x0 b h w))
    (fun w => (congrArg (val_main_v37 (F := Ideal)) (funext fun a => by match a with | ⟨0, _⟩ => rfl | ⟨1, _⟩ => rfl)).trans (cos_at w l)))
/-- and their sine transform. -/
theorem rowSin_sum (h l : Fin 512) : val_main_v40 (F := Ideal) x0 (ix3 b h l) = ∑ w : Fin 512, imageOf x0 b h w * ((Spec.S w.val l.val : ℝ) : EReal) :=
  (val_main_v40_apply x0 (ix3 b h l)).trans (dot_congr _ _ _ _
    (fun w => (congrArg (val_main_v0 (F := Ideal) x0) (funext fun a => by match a with | ⟨0, _⟩ => rfl | ⟨1, _⟩ => rfl | ⟨2, _⟩ => rfl)).trans (image_at x0 b h w))
    (fun w => (congrArg (val_main_v38 (F := Ideal)) (funext fun a => by match a with | ⟨0, _⟩ => rfl | ⟨1, _⟩ => rfl)).trans (sin_at w l)))
/-- The columns' transforms: cosine of cosine, -/
theorem cosCos_sum (k l : Fin 512) : val_main_v42 (F := Ideal) x0 (ix3 b k l)
    = ∑ h : Fin 512, val_main_v39 (F := Ideal) x0 (ix3 b h l) * ((Spec.C k.val h.val : ℝ) : EReal) := by
  rw [val_main_v42_apply, val_main_v41_apply]
  exact dot_congr _ _ _ _ (fun h => congrArg (val_main_v39 (F := Ideal) x0) (funext fun a => by match a with | ⟨0, _⟩ => rfl | ⟨1, _⟩ => rfl | ⟨2, _⟩ => rfl))
    (fun h => (congrArg (val_main_v37 (F := Ideal)) (funext fun a => by match a with | ⟨0, _⟩ => rfl | ⟨1, _⟩ => rfl)).trans (cos_at k h))
/-- sine of sine, -/
theorem sinSin_sum (k l : Fin 512) : val_main_v44 (F := Ideal) x0 (ix3 b k l)
    = ∑ h : Fin 512, val_main_v40 (F := Ideal) x0 (ix3 b h l) * ((Spec.S k.val h.val : ℝ) : EReal) := by
  rw [val_main_v44_apply, val_main_v43_apply]
  exact dot_congr _ _ _ _ (fun h => congrArg (val_main_v40 (F := Ideal) x0) (funext fun a => by match a with | ⟨0, _⟩ => rfl | ⟨1, _⟩ => rfl | ⟨2, _⟩ => rfl))
    (fun h => (congrArg (val_main_v38 (F := Ideal)) (funext fun a => by match a with | ⟨0, _⟩ => rfl | ⟨1, _⟩ => rfl)).trans (sin_at k h))
/-- sine of cosine -/
theorem sinCos_sum (k l : Fin 512) : val_main_v47 (F := Ideal) x0 (ix3 b k l)
    = ∑ h : Fin 512, val_main_v39 (F := Ideal) x0 (ix3 b h l) * ((Spec.S k.val h.val : ℝ) : EReal) := by
  rw [val_main_v47_apply, val_main_v46_apply]
  exact dot_congr _ _ _ _ (fun h => congrArg (val_main_v39 (F := Ideal) x0) (funext fun a => by match a with | ⟨0, _⟩ => rfl | ⟨1, _⟩ => rfl | ⟨2, _⟩ => rfl))
    (fun h => (congrArg (val_main_v38 (F := Ideal)) (funext fun a => by match a with | ⟨0, _⟩ => rfl | ⟨1, _⟩ => rfl)).trans (sin_at k h))
/-- and cosine of sine. -/
theorem cosSin_sum (k l : Fin 512) : val_main_v49 (F := Ideal) x0 (ix3 b k l)
    = ∑ h : Fin 512, val_main_v40 (F := Ideal) x0 (ix3 b h l) * ((Spec.C k.val h.val : ℝ) : EReal) := by
  rw [val_main_v49_apply, val_main_v48_apply]
  exact dot_congr _ _ _ _ (fun h => congrArg (val_main_v40 (F := Ideal) x0) (funext fun a => by match a with | ⟨0, _⟩ => rfl | ⟨1, _⟩ => rfl | ⟨2, _⟩ => rfl))
    (fun h => (congrArg (val_main_v37 (F := Ideal)) (funext fun a => by match a with | ⟨0, _⟩ => rfl | ⟨1, _⟩ => rfl)).trans (cos_at k h))

/-- The real part, -/
theorem re_eq (k l : Fin 512) : val_main_v53 (F := Ideal) x0 (ix3 b k l)
    = Ideal.div (val_main_v42 (F := Ideal) x0 (ix3 b k l) - val_main_v44 (F := Ideal) x0 (ix3 b k l)) ((262144 : ℝ) : EReal) := by
  rw [val_main_v53_apply, val_main_v45_apply, val_main_v52_apply, ← Spec.bits_262144]
  rfl
/-- and the imaginary part. -/
theorem im_eq (k l : Fin 512) : val_main_v55 (F := Ideal) x0 (ix3 b k l)
    = Ideal.div (-(val_main_v47 (F := Ideal) x0 (ix3 b k l) + val_main_v49 (F := Ideal) x0 (ix3 b k l))) ((262144 : ℝ) : EReal) := by
  rw [val_main_v55_apply, val_main_v51_apply, val_main_v50_apply, val_main_v54_apply, ← Spec.bits_262144]
  rfl

/-! ### Of a real image -/

section Real
variable (x : Fin 512 → Fin 512 → ℝ) (hx : ∀ h w, imageOf x0 b h w = ((x h w : ℝ) : EReal))
include hx

/-- The rows' cosine transform, -/
theorem rowCos_at (h l : Fin 512) : val_main_v39 (F := Ideal) x0 (ix3 b h l) = ((Spec.xc x h l.val : ℝ) : EReal) :=
  (rowCos_sum x0 b h l).trans (dot_real _ _ _ (hx h))
/-- and their sine transform. -/
theorem rowSin_at (h l : Fin 512) : val_main_v40 (F := Ideal) x0 (ix3 b h l) = ((Spec.xs x h l.val : ℝ) : EReal) :=
  (rowSin_sum x0 b h l).trans (dot_real _ _ _ (hx h))

/-- The real part. -/
theorem re_at (k l : Fin 512) : val_main_v53 (F := Ideal) x0 (ix3 b k l) = ((Spec.re x k.val l.val : ℝ) : EReal) := by
  rw [re_eq, cosCos_sum, sinSin_sum, dot_real _ _ _ fun h => rowCos_at x0 b x hx h l, dot_real _ _ _ fun h => rowSin_at x0 b x hx h l,
    ← EReal.coe_sub, Spec.div_real _ _ (by norm_num)]
  simp only [Spec.re, mul_comm]
/-- The imaginary part. -/
theorem im_at (k l : Fin 512) : val_main_v55 (F := Ideal) x0 (ix3 b k l) = ((Spec.im x k.val l.val : ℝ) : EReal) := by
  rw [im_eq, sinCos_sum, cosSin_sum, dot_real _ _ _ fun h => rowCos_at x0 b x hx h l, dot_real _ _ _ fun h => rowSin_at x0 b x hx h l,
    ← EReal.coe_add, ← EReal.coe_neg, Spec.div_real _ _ (by norm_num)]
  simp only [Spec.im, mul_comm]

end Real

/-! ### Of an image with an infinite entry -/

/-- A row with an infinite entry has an infinite cosine or sine transform. -/
theorem row_inf (h w : Fin 512) (hi : Spec.Inf (imageOf x0 b h w)) (l : Fin 512) :
    Spec.Inf (val_main_v39 (F := Ideal) x0 (ix3 b h l)) ∨ Spec.Inf (val_main_v40 (F := Ideal) x0 (ix3 b h l)) := by
  rw [rowCos_sum, rowSin_sum]
  rcases Spec.C_or_S w.val l.val with e | e
  · exact .inl (Spec.inf_dot _ _ w _ hi rfl e)
  · exact .inr (Spec.inf_dot _ _ w _ hi rfl e)

/-- The real or the imaginary part is infinite at every pair of frequencies. -/
theorem transform_inf (h w : Fin 512) (hi : Spec.Inf (imageOf x0 b h w)) (k l : Fin 512) :
    Spec.Inf (val_main_v53 (F := Ideal) x0 (ix3 b k l)) ∨ Spec.Inf (val_main_v55 (F := Ideal) x0 (ix3 b k l)) := by
  rw [re_eq, im_eq, cosCos_sum, sinSin_sum, sinCos_sum, cosSin_sum]
  have d : (262144 : ℝ) ≠ 0 := by norm_num
  rcases row_inf x0 b h w hi l with r | r <;> rcases Spec.C_or_S k.val h.val with e | e
  · exact .inl (Spec.inf_div _ _ d (Spec.inf_sub_left _ _ (Spec.inf_dot _ _ h _ r rfl e)))
  · exact .inr (Spec.inf_div _ _ d (Spec.inf_neg _ (Spec.inf_add_left _ _ (Spec.inf_dot _ _ h _ r rfl e))))
  · exact .inr (Spec.inf_div _ _ d (Spec.inf_neg _ (Spec.inf_add_right _ _ (Spec.inf_dot _ _ h _ r rfl e))))
  · exact .inl (Spec.inf_div _ _ d (Spec.inf_sub_right _ _ (Spec.inf_dot _ _ h _ r rfl e)))

/-- The reference's transform of an image. -/
theorem transform : Spec.IsTransform 512 (imageOf x0 b) (fun k l => val_main_v53 (F := Ideal) x0 (ix3 b k l))
    (fun k l => val_main_v55 (F := Ideal) x0 (ix3 b k l)) where
  real x hx k l _ := ⟨re_at x0 b x hx k l, im_at x0 b x hx k l⟩
  inf := fun ⟨h, w, hi⟩ k l _ => transform_inf x0 b h w hi k l

end Image

/-- The target's transform is the same function of the target as the output's is of the output. -/
theorem re_same (a : Vec Ideal S32x1x512x512 .f32) : val_main_v85 (F := Ideal) a = val_main_v53 (F := Ideal) a := rfl
/-- The same of the imaginary part. -/
theorem im_same (a : Vec Ideal S32x1x512x512 .f32) : val_main_v87 (F := Ideal) a = val_main_v55 (F := Ideal) a := rfl

end Cert.ReferenceIdeal.Ref
-- ==== Proof.ReferenceIdeal.Scatter.lean ====
/- The reference's segment sum at an entry, over the extended reals. -/
module

public import proofs.«01_k».proof.Proof.Gen.ReferenceIdeal.Read
public import proofs.«01_k».proof.Proof.Words
public import Idealize.ShloMosaic.Lib.Routing.OpsPair

@[expose] public section

set_option maxRecDepth 16384

noncomputable section

namespace Cert.ReferenceIdeal.Seg

open Cert.ReferenceIdeal Cert.ReferenceIdeal.Gen
open Idealize.ShloMosaic Idealize.ShloMosaic.TcCoe
open Idealize.ShloMosaic.ValueIdx

/-- The segment sum's dimension numbers. -/
abbrev dims : ScatterDims S258x32 S262144x1 S262144x32 := scatter_S258x32_S262144x1_S262144x32_1_0_0_1

/-- The segment an update row goes to, -/
theorem start_0 (j : S262144x32.Idx) (idx : IVec S262144x1 32) : dims.start j idx 0 = (idx (ix2 (j 0 : Fin 262144) 0)).toInt := by
  unfold ScatterDims.start
  rw [dif_pos (show (0 : Fin S258x32.rank) ∈ dims.scatterDimsToOperandDims by decide)]
  refine congrArg (fun z => (idx z).toInt) (funext fun a => Fin.ext ?_)
  match a with
  | ⟨0, _⟩ => rfl
  | ⟨1, _⟩ => rfl
/-- none for its column; -/
theorem start_1 (j : S262144x32.Idx) (idx : IVec S262144x1 32) : dims.start j idx 1 = 0 := by
  unfold ScatterDims.start
  rw [dif_neg (show ¬ (1 : Fin S258x32.rank) ∈ dims.scatterDimsToOperandDims by decide)]
/-- its row is not a window axis, -/
theorem window_0 (j : S262144x32.Idx) : dims.window j 0 = 0 := by
  unfold ScatterDims.window
  rw [dif_neg (show ¬ (0 : Fin S258x32.rank) ∈ dims.sKept by decide)]
/-- and its column is. -/
theorem window_1 (j : S262144x32.Idx) : dims.window j 1 = (j 1).val := by
  unfold ScatterDims.window
  rw [dif_pos (show (1 : Fin S258x32.rank) ∈ dims.sKept by decide)]
  rfl

/-- Where an update element lands. -/
theorem lands (n : Fin 262144) (b' : Fin 32) (idx : IVec S262144x1 32) (r : Fin 258) (b : Fin 32) :
    dims.resultIdx? (ix2 n b') idx = some (ix2 r b) ↔ idx (ix2 n 0) = BitVec.ofNat 32 r.val ∧ b' = b := by
  refine (Routing.resultIdx?_ix2 dims (ix2 n b') idx r b).trans ?_
  rw [start_0, start_1, window_0, window_1]
  show (idx (ix2 n 0)).toInt + ((0 : ℕ) : ℤ) = (r.val : ℤ) ∧ (0 : ℤ) + ((b'.val : ℕ) : ℤ) = (b.val : ℤ) ↔ _
  have hr := WordArith.toInt_ofNat_small r.val (by have := r.isLt; omega)
  refine and_congr ⟨fun h => BitVec.eq_of_toInt_eq (by rw [hr]; omega), fun h => by rw [h, hr]; omega⟩
    ⟨fun h => Fin.ext (by omega), fun h => by rw [h]; omega⟩

/-- A segment sum at an entry. -/
theorem scatter_at (z : FVec Ideal S258x32 .f32) (idx : IVec S262144x1 32) (upd : FVec Ideal S262144x32 .f32) (r : Fin 258) (b : Fin 32) :
    Host.scatterAdd dims z idx upd (ix2 r b)
      = z (ix2 r b) + ∑ n : Fin 262144, if idx (ix2 n 0) = BitVec.ofNat 32 r.val then upd (ix2 n b) else 0 := by
  simp only [Host.scatterAdd, Ideal.hostScatterAdd_def]
  unfold Ideal.hostScatterAdd
  refine congrArg (z (ix2 r b) + ·) ?_
  rw [Finset.sum_filter, sum_idx2]
  refine Finset.sum_congr rfl fun n _ => ?_
  simp only [lands]
  by_cases h : idx (ix2 n 0) = BitVec.ofNat 32 r.val
  · simp [h]
  · simp [h]

end Cert.ReferenceIdeal.Seg
-- ==== Proof.ReferenceIdeal.RefValue.lean ====
/- The reference's result on two batches of images. -/
module

public import proofs.«01_k».proof.Proof.ReferenceIdeal.RefDft
public import proofs.«01_k».proof.Proof.ReferenceIdeal.Scatter

@[expose] public section

set_option maxRecDepth 16384

noncomputable section

namespace Cert.ReferenceIdeal.Ref

open Cert.ReferenceIdeal Cert.ReferenceIdeal.Gen Cert.ReferenceIdeal.Read
open Idealize.ShloMosaic Idealize.ShloMosaic.TcCoe
open Idealize.ShloMosaic.ValueIdx

/-! ## Ring sums -/

/-- The flat place of a pair of positions. -/
def flat (k l : Fin 512) : Fin 262144 := ⟨512 * k.val + l.val, by have := k.isLt; have := l.isLt; omega⟩

/-- A sum over all places, row by row. -/
theorem sum_flat (f : Fin 262144 → EReal) : ∑ n : Fin 262144, f n = ∑ k : Fin 512, ∑ l : Fin 512, f (flat k l) := by
  rw [← Fintype.sum_prod_type' (f := fun (k l : Fin 512) => f (flat k l))]
  refine (Fintype.sum_equiv (finProdFinEquiv (m := 512) (n := 512)) _ _ fun p => congrArg f (Fin.ext ?_)).symm
  show 512 * p.1.val + p.2.val = p.2.val + 512 * p.1.val
  omega

/-- The segment of a place. -/
theorem segment_at (k l : Fin 512) : val_main_v94 (F := Ideal) (ix2 (flat k l) 0) = val_main_v22 (F := Ideal) (ix2 k l) := by
  have hk := k.isLt
  have hl := l.isLt
  rw [val_main_v94_apply, val_main_v23_apply]
  refine congrArg (val_main_v22 (F := Ideal)) (funext fun a => Fin.ext ?_)
  match a with
  | ⟨0, _⟩ => show (512 * k.val + l.val) / 512 = k.val; omega
  | ⟨1, _⟩ => show (512 * k.val + l.val) % 512 = l.val; omega

/-- A row of a ring-sum table. -/
def seg (a : Fin 257) : Fin 258 := ⟨a.val, by have := a.isLt; omega⟩

/-- A segment sum is a ring sum. -/
theorem ringSum_at (upd : FVec Ideal S262144x32 .f32) (b : Fin 32) (P : Fin 512 → Fin 512 → EReal)
    (hP : ∀ k l : Fin 512, upd (ix2 (flat k l) b) = P k l) (a : Fin 257) :
    Host.scatterAdd Seg.dims (val_main_v93 (F := Ideal)) (val_main_v94 (F := Ideal)) upd (ix2 (seg a) b) = Spec.ringE a.val P := by
  have ha : a.val ≤ 256 := by have := a.isLt; omega
  rw [Seg.scatter_at, val_main_v93_apply, sum_flat]
  show Ideal.ofBits .f32 0x00000000#32 + _ = _
  rw [Ideal.ofBits_zero_f32, zero_add, Spec.ringE]
  refine Finset.sum_congr rfl fun k _ => Finset.sum_congr rfl fun l _ => ?_
  rw [segment_at, hP, show (seg a).val = a.val from rfl]
  exact if_congr (ring_at k l a.val ha) rfl rfl

/-- A batch laid out by places, then turned. -/
theorem turned_at (q : Vec Ideal S32x512x512 .f32) (b : Fin 32) (k l : Fin 512) :
    transpose S262144x32 [1, 0] (shapeCast S32x262144 q shapeCasts_S32x512x512_S32x262144) transposes_S32x262144_S262144x32_1_0 (ix2 (flat k l) b)
      = q (ix3 b k l) := by
  refine (transpose_apply [1, 0] _ transposes_S32x262144_S262144x32_1_0 (ix2 (flat k l) b) (ix2 b (flat k l)) (fun d => match d with
    | ⟨0, _⟩ => rfl
    | ⟨1, _⟩ => rfl)).trans (shapeCast_apply q shapeCasts_S32x512x512_S32x262144 (ix2 b (flat k l)) (ix3 b k l) ?_)
  simp only [Shape.rowMajor_val_three, Shape.rowMajor_val_two]
  show (b.val * 512 + k.val) * 512 + l.val = b.val * 262144 + (512 * k.val + l.val)
  omega

section Batch
variable (x0 x1 : Vec Ideal S32x1x512x512 .f32) (a : Fin 257) (b : Fin 32)

/-- The real part of an image's transform, -/
def reOf (x : Vec Ideal S32x1x512x512 .f32) (b : Fin 32) (k l : Fin 512) : EReal := val_main_v53 (F := Ideal) x (ix3 b k l)
/-- and the imaginary part. -/
def imOf (x : Vec Ideal S32x1x512x512 .f32) (b : Fin 32) (k l : Fin 512) : EReal := val_main_v55 (F := Ideal) x (ix3 b k l)

/-- The target's transform, the real part -/
theorem re2_at (k l : Fin 512) : val_main_v85 (F := Ideal) x1 (ix3 b k l) = reOf x1 b k l := congrFun (re_same x1) (ix3 b k l)
/-- and the imaginary part. -/
theorem im2_at (k l : Fin 512) : val_main_v87 (F := Ideal) x1 (ix3 b k l) = imOf x1 b k l := congrFun (im_same x1) (ix3 b k l)

/-- The correlation's real part over a ring, -/
theorem corrRe_at : val_main_v96 (F := Ideal) x0 x1 (ix2 a b) = Spec.ringE a.val (fun k l => reOf x0 b k l * reOf x1 b k l + imOf x0 b k l * imOf x1 b k l) := by
  rw [val_main_v96_apply]
  refine (congrArg (val_main_v95 (F := Ideal) x0 x1) (funext fun d => by match d with | ⟨0, _⟩ => rfl | ⟨1, _⟩ => rfl)).trans
    (ringSum_at (val_main_v92 (F := Ideal) x0 x1) b _ (fun k l => ?_) a)
  refine (turned_at (val_main_v90 (F := Ideal) x0 x1) b k l).trans ?_
  rw [val_main_v90_apply, val_main_v88_apply, val_main_v89_apply, re2_at, im2_at]
  rfl
/-- its imaginary part, -/
theorem corrIm_at : val_main_v105 (F := Ideal) x0 x1 (ix2 a b) = Spec.ringE a.val (fun k l => imOf x0 b k l * reOf x1 b k l - reOf x0 b k l * imOf x1 b k l) := by
  rw [val_main_v105_apply]
  refine (congrArg (val_main_v104 (F := Ideal) x0 x1) (funext fun d => by match d with | ⟨0, _⟩ => rfl | ⟨1, _⟩ => rfl)).trans
    (ringSum_at (val_main_v101 (F := Ideal) x0 x1) b _ (fun k l => ?_) a)
  refine (turned_at (val_main_v99 (F := Ideal) x0 x1) b k l).trans ?_
  rw [val_main_v99_apply, val_main_v97_apply, val_main_v98_apply, re2_at, im2_at]
  rfl
/-- the output's power -/
theorem pow1_at : val_main_v114 (F := Ideal) x0 (ix2 a b) = Spec.ringE a.val (fun k l => reOf x0 b k l * reOf x0 b k l + imOf x0 b k l * imOf x0 b k l) := by
  rw [val_main_v114_apply]
  refine (congrArg (val_main_v113 (F := Ideal) x0) (funext fun d => by match d with | ⟨0, _⟩ => rfl | ⟨1, _⟩ => rfl)).trans
    (ringSum_at (val_main_v110 (F := Ideal) x0) b _ (fun k l => ?_) a)
  refine (turned_at (val_main_v108 (F := Ideal) x0) b k l).trans ?_
  rw [val_main_v108_apply, val_main_v106_apply, val_main_v107_apply]
  rfl
/-- and the target's. -/
theorem pow2_at : val_main_v123 (F := Ideal) x1 (ix2 a b) = Spec.ringE a.val (fun k l => reOf x1 b k l * reOf x1 b k l + imOf x1 b k l * imOf x1 b k l) := by
  rw [val_main_v123_apply]
  refine (congrArg (val_main_v122 (F := Ideal) x1) (funext fun d => by match d with | ⟨0, _⟩ => rfl | ⟨1, _⟩ => rfl)).trans
    (ringSum_at (val_main_v119 (F := Ideal) x1) b _ (fun k l => ?_) a)
  refine (turned_at (val_main_v117 (F := Ideal) x1) b k l).trans ?_
  rw [val_main_v117_apply, val_main_v115_apply, val_main_v116_apply, re2_at, im2_at]
  rfl

/-- A ring's squared distance from one, from the ring sums. -/
theorem dist_at : val_main_v135 (F := Ideal) x0 x1 (ix2 a b)
    = Spec.ringTerm (Ideal.sqrt (val_main_v96 (F := Ideal) x0 x1 (ix2 a b) * val_main_v96 (F := Ideal) x0 x1 (ix2 a b)
          + val_main_v105 (F := Ideal) x0 x1 (ix2 a b) * val_main_v105 (F := Ideal) x0 x1 (ix2 a b)))
        (val_main_v114 (F := Ideal) x0 (ix2 a b)) (val_main_v123 (F := Ideal) x1 (ix2 a b)) := by
  rw [val_main_v135_apply, val_main_v134_apply, val_main_v132_apply, val_main_v131_apply, val_main_v129_apply, val_main_v128_apply,
    val_main_v130_apply, val_main_v133_apply, val_main_v127_apply, val_main_v126_apply, val_main_v124_apply, val_main_v125_apply]
  generalize val_main_v96 (F := Ideal) x0 x1 (ix2 a b) = n
  generalize val_main_v105 (F := Ideal) x0 x1 (ix2 a b) = m
  generalize val_main_v114 (F := Ideal) x0 (ix2 a b) = y
  generalize val_main_v123 (F := Ideal) x1 (ix2 a b) = z
  rfl

/-- A ring's squared distance from one. -/
theorem term_at : val_main_v135 (F := Ideal) x0 x1 (ix2 a b) = Spec.pairTerm (imageOf x0 b) (imageOf x1 b) a.val := by
  rw [dist_at, pow1_at, pow2_at]
  exact Spec.full_term (imageOf x0 b) (imageOf x1 b) a.val (by have := a.isLt; omega) (reOf x0 b) (imOf x0 b) (reOf x1 b) (imOf x1 b)
    (transform x0 b) (transform x1 b) _ _ (corrRe_at x0 x1 a b) (corrIm_at x0 x1 a b)

/-- The reference's result. -/
theorem loss_value (i : S1x1.Idx) : val_main_v138 (F := Ideal) x0 x1 i = Spec.loss (imageOf x0) (imageOf x1) := by
  refine (show val_main_v138 (F := Ideal) x0 x1 i = val_main_v137 (F := Ideal) x0 x1 (fun d => d.elim0) from
    congrArg (val_main_v137 (F := Ideal) x0 x1) (funext fun d => d.elim0)).trans ?_
  rw [val_main_v137_apply, val_main_v136_apply, sum_idx2]
  show Ideal.div (Ideal.ofBits .f32 0x00000000#32 + _) (Ideal.ofBits .f32 0x46008000#32) = _
  rw [Ideal.ofBits_zero_f32, zero_add, Spec.bits_8224, Ideal.div_coe (by norm_num), one_div]
  unfold Spec.loss
  refine congrArg (· * ((8224⁻¹ : ℝ) : EReal)) (Finset.sum_congr rfl fun a _ => Finset.sum_congr rfl fun b _ => ?_)
  exact term_at x0 x1 a b

end Batch

end Cert.ReferenceIdeal.Ref
-- ==== Proof.Bounded.lean ====
/- The loss lies between zero and one. -/
module

public import proofs.«01_k».proof.Defs
public import proofs.«01_k».proof.Proof.Extended

@[expose] public section

noncomputable section

namespace Cert.Spec

open Idealize.ShloMosaic

/-- The real part (`true`) and the imaginary part (`false`) of an image's transform on a ring, zero off the ring. -/
def onRing (a : ℕ) (x : Fin 512 → Fin 512 → ℝ) (p : Fin 512 × Fin 512 × Bool) : ℝ :=
  if ring p.1.val p.2.1.val = BitVec.ofNat 32 a then (if p.2.2 then re x p.1.val p.2.1.val else im x p.1.val p.2.1.val) else 0

/-- A ring's correlation as one sum of products. -/
theorem onRing_mul (a : ℕ) (x y : Fin 512 → Fin 512 → ℝ) :
    ∑ p, onRing a x p * onRing a y p = ringSum a (fun k l => re x k l * re y k l + im x k l * im y k l) := by
  rw [ringSum, Fintype.sum_prod_type]
  refine Finset.sum_congr rfl fun k _ => ?_
  rw [Fintype.sum_prod_type]
  refine Finset.sum_congr rfl fun l _ => ?_
  rw [Fintype.sum_bool]
  by_cases h : ring k.val l.val = BitVec.ofNat 32 a <;> simp [onRing, h]

/-- A ring's correlation is at most the root of the product of the two powers. -/
theorem corr_le (a : ℕ) (x y : Fin 512 → Fin 512 → ℝ) :
    |ringSum a (prod x y 0)| ≤ Real.sqrt (ringSum a (power x) * ringSum a (power y)) := by
  have h := Finset.sum_mul_sq_le_sq_mul_sq Finset.univ (onRing a x) (onRing a y)
  simp only [pow_two (onRing _ _ _), onRing_mul] at h
  exact Real.abs_le_sqrt h

/-- A ring whose correlation is at most the root of the product of the powers is at a distance between zero and one. -/
theorem ringTerm_bounds (n y z : ℝ) (hn : 0 ≤ n) (hy : 0 ≤ y) (hz : 0 ≤ z) (h : n ≤ Real.sqrt (y * z)) :
    0 ≤ ringTerm (n : EReal) (y : EReal) (z : EReal) ∧ ringTerm (n : EReal) (y : EReal) (z : EReal) ≤ 1 := by
  obtain ⟨e, he, hb⟩ : ∃ e : ℝ, 0 < e ∧ Ideal.ofBits .f32 0x322BCC77#32 = ((e : ℝ) : EReal) := ⟨_, by positivity, bits_eps⟩
  have hd : 0 < Real.sqrt (y * z) + e := by have := Real.sqrt_nonneg (y * z); linarith
  have hq : Ideal.div (n : EReal) (Ideal.sqrt ((y : EReal) * (z : EReal)) + Ideal.ofBits .f32 0x322BCC77#32)
      = ((n * (Real.sqrt (y * z) + e)⁻¹ : ℝ) : EReal) := by
    rw [hb, ← EReal.coe_mul, Ideal.sqrt_coe, if_neg (not_lt.mpr (mul_nonneg hy hz)), ← EReal.coe_add, Ideal.div,
      if_neg (by exact_mod_cast hd.ne'), ← EReal.coe_inv, ← EReal.coe_mul]
  have q0 : 0 ≤ n * (Real.sqrt (y * z) + e)⁻¹ := mul_nonneg hn (inv_nonneg.mpr hd.le)
  have q1 : n * (Real.sqrt (y * z) + e)⁻¹ ≤ 1 := by
    rw [← div_eq_mul_inv, div_le_one hd]; linarith
  rw [ringTerm, hq, Ideal.ofBits_one_f32]
  generalize n * (Real.sqrt (y * z) + e)⁻¹ = q at q0 q1
  rw [← EReal.coe_one, ← EReal.coe_sub, ← EReal.coe_mul]
  constructor
  · exact_mod_cast mul_self_nonneg (1 - q)
  · exact_mod_cast (by nlinarith : (1 - q) * (1 - q) ≤ 1)

/-- A ring of a pair of images is at a distance between zero and one. -/
theorem pairTerm_bounds (X Y : Fin 512 → Fin 512 → EReal) (a : ℕ) : 0 ≤ pairTerm X Y a ∧ pairTerm X Y a ≤ 1 := by
  rw [pairTerm]
  split
  · exact ⟨zero_le_one, le_rfl⟩
  · exact ringTerm_bounds _ _ _ (abs_nonneg _) (ringSum_power_nonneg _ _) (ringSum_power_nonneg _ _) (corr_le _ _ _)

/-- A double sum of ones. -/
theorem sum_ones (m n : ℕ) : ∑ _a : Fin m, ∑ _b : Fin n, ((1 : ℝ) : EReal) = (((m : ℝ) * (n : ℝ) : ℝ) : EReal) := by
  have h : ∑ _a : Fin m, ∑ _b : Fin n, (1 : ℝ) = (m : ℝ) * (n : ℝ) := by
    simp only [Finset.sum_const, Finset.card_univ, Fintype.card_fin, nsmul_eq_mul, mul_one]
  rw [← h, coe_sum]
  exact Finset.sum_congr rfl fun _ _ => (coe_sum _ _).symm

/-- The loss is between zero and one. -/
theorem loss_bounds (X Y : Fin 32 → Fin 512 → Fin 512 → EReal) : 0 ≤ loss X Y ∧ loss X Y ≤ 1 := by
  have hi : (0 : EReal) ≤ ((8224⁻¹ : ℝ) : EReal) := by exact_mod_cast (by norm_num : (0 : ℝ) ≤ 8224⁻¹)
  constructor
  · exact mul_nonneg (Finset.sum_nonneg fun a _ => Finset.sum_nonneg fun b _ => (pairTerm_bounds _ _ _).1) hi
  · have h1 : (∑ a : Fin 257, ∑ b : Fin 32, pairTerm (X b) (Y b) a.val) ≤ ∑ a : Fin 257, ∑ b : Fin 32, ((1 : ℝ) : EReal) :=
      Finset.sum_le_sum fun a _ => Finset.sum_le_sum fun b _ => (pairTerm_bounds _ _ _).2
    have h2 := sum_ones 257 32
    refine (mul_le_mul_of_nonneg_right (h1.trans_eq h2) hi).trans_eq ?_
    rw [← EReal.coe_mul, ← EReal.coe_one]
    exact congrArg _ (by norm_num)

end Cert.Spec

namespace Cert.Post_bounded

open Idealize.ShloMosaic

/-- The side condition of the bound's two comparisons. -/
theorem facts : Cert.Post_bounded.Facts where
  bcast_S_S1x1 := by decide

/-- A result between zero and one meets the bound. -/
theorem fn_of_bounds [Cert.Post_bounded.Facts] (x y : FVec Ideal S32x1x512x512 .f32) (v : FVec Ideal S1x1 .f32)
    (h : ∀ i, (0 : EReal) ≤ v i ∧ (v i : EReal) ≤ 1) : fn (F := Ideal) x y v = fun _ => 1#1 := by
  funext i
  have h0 : Ideal.cmp .oge (v i) (Ideal.ofBits .f32 0x00000000#32) = 1#1 := by
    rw [Ideal.ofBits_zero_f32]; simp [Ideal.cmp, (h i).1]
  have h1 : Ideal.cmp .ole (v i) (Ideal.ofBits .f32 0x3F800000#32) = 1#1 := by
    rw [Ideal.ofBits_one_f32]; simp [Ideal.cmp, (h i).2]
  show Ideal.cmp .oge (v i) (Ideal.ofBits .f32 0x00000000#32) &&& Ideal.cmp .ole (v i) (Ideal.ofBits .f32 0x3F800000#32) = 1#1
  rw [h0, h1]
  decide

end Cert.Post_bounded
-- ==== Proof.lean ====
/- The claims about the kernel, put together. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Kernel.Run
public import proofs.«01_k».proof.Proof.KernelIdeal.Run
public import proofs.«01_k».proof.Proof.KernelIdeal.KernelValue
public import proofs.«01_k».proof.Proof.ReferenceIdeal.RefValue
public import proofs.«01_k».proof.Proof.Bounded
public import Idealize.ShloMosaic.Adequacy
public import Idealize.ShloMosaic.Init
public import Idealize.ShloMosaic.Lib.Quiescent
public import Idealize.ShloMosaic.Lib.Claim

@[expose] public section

noncomputable section

namespace Cert.Proof

open Idealize.ShloMosaic Idealize.SL.Sem Cert.Kernel

/-- The reference runs, leaves its arguments, and has no semaphore. -/
theorem reference_frame : Cert.quiescent_ReferenceIdeal (hReferenceIdeal := Cert.ReferenceIdeal.Gen.facts) := fun m ρ _ =>
  (θ_run Cert.ReferenceIdeal.defs _ _).mono
    (fun r h => ⟨fun c => ⟨(h c).2.1, (h c).2.2⟩, sem_eq_zero_of_no_sems rfl r.2⟩)
    (Cert.ReferenceIdeal.Value.run (F := Ideal) m ρ)

/-- What the reference leaves as its result, as a function of its two arguments. -/
theorem reference_result (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      fun r => ∀ c : Dev Cert.ReferenceIdeal.nD,
        r.2.mem ((c.tc : Thread Cert.ReferenceIdeal.nD Cert.ReferenceIdeal.τ).loc Cert.ReferenceIdeal.main_v138)
          = Cert.ReferenceIdeal.Read.val_main_v138 (F := Ideal)
              (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1) :=
  (θ_run Cert.ReferenceIdeal.defs _ _).mono
    (fun r h c => ⟨((h c).1.trans (Cert.ReferenceIdeal.Read.val_main_v138_eq _)).trans
      (by rw [StableHlo.launchContents_devRef, StableHlo.launchContents_devRef]), (h c).2.1, (h c).2.2⟩)
    (Cert.ReferenceIdeal.Value.run (F := Ideal) m ρ)

/-- From any two batches of images, infinite entries allowed, the kernel and the reference leave the same loss. -/
theorem same_loss : Cert.algebraic_KernelIdeal_ReferenceIdeal (hKernelIdeal := Cert.KernelIdeal.Gen.facts)
    (hReferenceIdeal := Cert.ReferenceIdeal.Gen.facts) := fun m ρ m' ρ' _ hargs =>
  ⟨Cert.KernelIdeal.Run.loss m,
    (θ_run Cert.KernelIdeal.defs _ _).mono (fun _ h c => ⟨(h.1 c).2.2, (h.1 c).1, (h.1 c).2.1⟩) (Cert.KernelIdeal.Run.run m ρ),
    (θ_run Cert.ReferenceIdeal.defs _ _).mono
      (fun _ h c => ⟨(h c).1.trans (by
          rw [(hargs c).1, (hargs c).2]
          funext i
          exact (Cert.ReferenceIdeal.Ref.loss_value _ _ i).trans (Cert.KernelIdeal.Run.loss_value m c i).symm),
        (h c).2.1, (h c).2.2⟩)
      (reference_result m' ρ')⟩

/-- The kernel's loss is between zero and one. -/
theorem kernel_bounded : Cert.holds_KernelIdeal_bounded (hKernelIdeal := Cert.KernelIdeal.Gen.facts)
    (hPost_bounded := Cert.Post_bounded.facts) := fun m ρ _ =>
  letI := Cert.Post_bounded.facts
  (θ_run Cert.KernelIdeal.defs _ _).mono (fun _ h c => ⟨(h.1 c).1, (h.1 c).2.1, (congrArg _ (h.1 c).2.2).trans
    (Cert.Post_bounded.fn_of_bounds _ _ _ fun i => by
      rw [Cert.KernelIdeal.Run.loss_value m c i]; exact Cert.Spec.loss_bounds _ _)⟩) (Cert.KernelIdeal.Run.run m ρ)

/-- The reference's loss is between zero and one. -/
theorem reference_bounded : Cert.holds_ReferenceIdeal_bounded (hReferenceIdeal := Cert.ReferenceIdeal.Gen.facts)
    (hPost_bounded := Cert.Post_bounded.facts) := fun m ρ _ =>
  letI := Cert.Post_bounded.facts
  (θ_run Cert.ReferenceIdeal.defs _ _).mono (fun _ h c => ⟨(h c).2.1, (h c).2.2, (congrArg _ (h c).1).trans
    (Cert.Post_bounded.fn_of_bounds _ _ _ fun i => by
      rw [Cert.ReferenceIdeal.Ref.loss_value _ _ i]; exact Cert.Spec.loss_bounds _ _)⟩) (reference_result m ρ)

/-- Everything claimed. -/
theorem claim : Cert.Claim := ⟨Cert.Kernel.Gen.facts, Cert.KernelIdeal.Gen.facts, Cert.ReferenceIdeal.Gen.facts, Cert.Post_bounded.facts,
  fun m ρ _ => Cert.Kernel.Run.frame m ρ, fun m ρ _ => Cert.KernelIdeal.Run.frame m ρ, reference_frame,
  IdealRules.named_const.statement Cert.KernelIdeal.κ "inv_n" .f32 0x38FF00FF#32 ((8224⁻¹ : ℝ) : EReal) rfl,
  same_loss, kernel_bounded, reference_bounded⟩

end Cert.Proof

end
